-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_BothIdeal [hPre_finite : Cert.Pre_finite.Facts] (m : (ℓ : Loc Cert.BothIdeal.nD Cert.BothIdeal.τ Cert.BothIdeal.sig) → Buf (Elt Ideal) ℓ) : Prop :=
  ∀ c : Dev Cert.BothIdeal.nD,
    (Cert.Pre_finite.fn (F := Ideal) (m ((c.tc : Thread Cert.BothIdeal.nD Cert.BothIdeal.τ).loc Cert.BothIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_BothIdeal [hBothIdeal : Cert.BothIdeal.Facts] [hPre_finite : Cert.Pre_finite.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => (∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0))
      ∧ r.2.sem = fun _ => 0)

def preserves_Kernel_KernelIdeal : Prop :=
  IdealRules.named_const.Statement Cert.KernelIdeal.κ "q2" .f32 0x3CF0F1A8#32 ((33115087394041 / 1125899906842624 : ℝ) : EReal)
  ∧ IdealRules.named_const.Statement Cert.KernelIdeal.κ "one_sub_q2" .f32 0x3F787873#32 ((1092784819448583 / 1125899906842624 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_difference_equation_pre_finite [hKernelIdeal : Cert.KernelIdeal.Facts] [hPre_finite : Cert.Pre_finite.Facts] [hPost_difference_equation : Cert.Post_difference_equation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_difference_equation.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def holds_BothIdeal_near [hBothIdeal : Cert.BothIdeal.Facts] [hPre_finite : Cert.Pre_finite.Facts] [hPost_near : Cert.Post_near.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => ∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0)
      ∧ (Cert.Post_near.fn (F := Ideal) (m ((c.tc : Thread Cert.BothIdeal.nD Cert.BothIdeal.τ).loc Cert.BothIdeal.main_arg0)) (r.2.mem ((c.tc : Thread Cert.BothIdeal.nD Cert.BothIdeal.τ).loc Cert.BothIdeal.main_v6)) (r.2.mem ((c.tc : Thread Cert.BothIdeal.nD Cert.BothIdeal.τ).loc Cert.BothIdeal.main_v22))).1 = (fun _ => 1#1)
      ∧ (Cert.Post_near.fn (F := Ideal) (m ((c.tc : Thread Cert.BothIdeal.nD Cert.BothIdeal.τ).loc Cert.BothIdeal.main_arg0)) (r.2.mem ((c.tc : Thread Cert.BothIdeal.nD Cert.BothIdeal.τ).loc Cert.BothIdeal.main_v6)) (r.2.mem ((c.tc : Thread Cert.BothIdeal.nD Cert.BothIdeal.τ).loc Cert.BothIdeal.main_v22))).2 = (fun _ => 1#1))

def Claim : Prop :=
  ∃ (hKernel : Cert.Kernel.Facts) (hKernelIdeal : Cert.KernelIdeal.Facts) (hReferenceIdeal : Cert.ReferenceIdeal.Facts) (hBothIdeal : Cert.BothIdeal.Facts) (hPre_finite : Cert.Pre_finite.Facts) (hPost_difference_equation : Cert.Post_difference_equation.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_BothIdeal (hBothIdeal := hBothIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_difference_equation_pre_finite (hKernelIdeal := hKernelIdeal) (hPre_finite := hPre_finite) (hPost_difference_equation := hPost_difference_equation)
    ∧ holds_BothIdeal_near (hBothIdeal := hBothIdeal) (hPre_finite := hPre_finite) (hPost_near := hPost_near)
-- ==== Post_difference_equation.lean ====
abbrev S64x1x480000 : Shape := ⟨3, ![64, 1, 480000]⟩
abbrev S_ : Shape := ⟨0, ![]⟩
abbrev S64x1x1 : Shape := ⟨3, ![64, 1, 1]⟩
abbrev S64x1x479999 : Shape := ⟨3, ![64, 1, 479999]⟩
abbrev S64x1x2 : Shape := ⟨3, ![64, 1, 2]⟩
abbrev S64x1x479998 : Shape := ⟨3, ![64, 1, 479998]⟩
abbrev S64x1x10 : Shape := ⟨3, ![64, 1, 10]⟩
abbrev S64x1x479990 : Shape := ⟨3, ![64, 1, 479990]⟩

class Facts : Prop where
  bcast_S_S64x1x480000 : S_.BroadcastsInDim S64x1x480000 (![] : Fin 0 → Fin S64x1x480000.rank)
  slices_S64x1x480000_S64x1x1_0_0_0 : S64x1x480000.Slices ![0, 0, 0] S64x1x1
  bcast_S_S64x1x1 : S_.BroadcastsInDim S64x1x1 (![] : Fin 0 → Fin S64x1x1.rank)
  slices_S64x1x480000_S64x1x479999_0_0_0 : S64x1x480000.Slices ![0, 0, 0] S64x1x479999
  concatenates_S64x1x1_S64x1x479999_S64x1x480000_d2 : Shape.Concatenates [S64x1x1, S64x1x479999] S64x1x480000 2
  slices_S64x1x480000_S64x1x2_0_0_0 : S64x1x480000.Slices ![0, 0, 0] S64x1x2
  bcast_S_S64x1x2 : S_.BroadcastsInDim S64x1x2 (![] : Fin 0 → Fin S64x1x2.rank)
  slices_S64x1x480000_S64x1x479998_0_0_0 : S64x1x480000.Slices ![0, 0, 0] S64x1x479998
  concatenates_S64x1x2_S64x1x479998_S64x1x480000_d2 : Shape.Concatenates [S64x1x2, S64x1x479998] S64x1x480000 2
  slices_S64x1x480000_S64x1x10_0_0_0 : S64x1x480000.Slices ![0, 0, 0] S64x1x10
  bcast_S_S64x1x10 : S_.BroadcastsInDim S64x1x10 (![] : Fin 0 → Fin S64x1x10.rank)
  slices_S64x1x480000_S64x1x479990_0_0_0 : S64x1x480000.Slices ![0, 0, 0] S64x1x479990
  concatenates_S64x1x10_S64x1x479990_S64x1x480000_d2 : Shape.Concatenates [S64x1x10, S64x1x479990] S64x1x480000 2

variable [Facts]

def fn_part2 {F : FTy → Type} [FloatOps F] (main_arg1 : FVec F S64x1x480000 .f32) (main_v29 : FVec F S64x1x480000 .f32) (main_v35 : FVec F S64x1x480000 .f32) (main_cst_10 : FVec F S_ .f32) : IVec S64x1x480000 1 :=
  let main_v36 : FVec F S64x1x480000 .f32 := broadcastInDim S64x1x480000 ![] bcast_S_S64x1x480000 main_cst_10
  let main_v37 : FVec F S64x1x480000 .f32 := mulf main_v36 main_v35
  let main_cst_11 : FVec F S_ .f32 := constant S_ .f32 0x3E2F9D96#32
  let main_v38 : FVec F S64x1x480000 .f32 := broadcastInDim S64x1x480000 ![] bcast_S_S64x1x480000 main_cst_11
  let main_v39 : FVec F S64x1x480000 .f32 := mulf main_v38 main_v37
  let main_cst_12 : FVec F S_ .f32 := constant S_ .f32 0x3E2F9D96#32
  let main_v40 : FVec F S64x1x480000 .f32 := broadcastInDim S64x1x480000 ![] bcast_S_S64x1x480000 main_cst_12
  let main_v41 : FVec F S64x1x480000 .f32 := mulf main_v40 main_v39
  let main_cst_13 : FVec F S_ .f32 := constant S_ .f32 0x3E2F9D96#32
  let main_v42 : FVec F S64x1x480000 .f32 := broadcastInDim S64x1x480000 ![] bcast_S_S64x1x480000 main_cst_13
  let main_v43 : FVec F S64x1x480000 .f32 := mulf main_v42 main_v41
  let main_cst_14 : FVec F S_ .f32 := constant S_ .f32 0x3E2F9D96#32
  let main_v44 : FVec F S64x1x480000 .f32 := broadcastInDim S64x1x480000 ![] bcast_S_S64x1x480000 main_cst_14
  let main_v45 : FVec F S64x1x480000 .f32 := mulf main_v44 main_v43
  let main_v46 : FVec F S64x1x480000 .f32 := subf main_v41 main_v45
  let main_v47 : FVec F S64x1x480000 .f32 := subf main_v29 main_v46
  let main_v48 : IVec S64x1x480000 1 := cmpf .oeq main_arg1 main_v47
  main_v48

def fn_part1 {F : FTy → Type} [FloatOps F] (main_arg0 : FVec F S64x1x480000 .f32) (main_arg1 : FVec F S64x1x480000 .f32) (main_v15 : FVec F S64x1x480000 .f32) (main_v17 : FVec F S64x1x1 .f32) : IVec S64x1x480000 1 :=
  let main_v18 : FVec F S64x1x479999 .f32 := (extractStridedSlice S64x1x479999 ![0, 0, 0] · slices_S64x1x480000_S64x1x479999_0_0_0) main_arg1
  let main_v19 : FVec F S64x1x480000 .f32 := (fun a b => concatenate S64x1x480000 2 [⟨S64x1x1, a⟩, ⟨S64x1x479999, b⟩] concatenates_S64x1x1_S64x1x479999_S64x1x480000_d2) main_v17 main_v18
  let main_cst_5 : FVec F S_ .f32 := constant S_ .f32 0x80000000#32
  let main_v20 : FVec F S64x1x480000 .f32 := broadcastInDim S64x1x480000 ![] bcast_S_S64x1x480000 main_cst_5
  let main_v21 : FVec F S64x1x480000 .f32 := mulf main_v20 main_v19
  let main_v22 : FVec F S64x1x480000 .f32 := subf main_v15 main_v21
  let main_v23 : FVec F S64x1x2 .f32 := (extractStridedSlice S64x1x2 ![0, 0, 0] · slices_S64x1x480000_S64x1x2_0_0_0) main_arg1
  let main_cst_6 : FVec F S_ .f32 := constant S_ .f32 0x00000000#32
  let main_v24 : FVec F S64x1x2 .f32 := broadcastInDim S64x1x2 ![] bcast_S_S64x1x2 main_cst_6
  let main_v25 : FVec F S64x1x479998 .f32 := (extractStridedSlice S64x1x479998 ![0, 0, 0] · slices_S64x1x480000_S64x1x479998_0_0_0) main_arg1
  let main_v26 : FVec F S64x1x480000 .f32 := (fun a b => concatenate S64x1x480000 2 [⟨S64x1x2, a⟩, ⟨S64x1x479998, b⟩] concatenates_S64x1x2_S64x1x479998_S64x1x480000_d2) main_v24 main_v25
  let main_cst_7 : FVec F S_ .f32 := constant S_ .f32 0x3E2F9D96#32
  let main_v27 : FVec F S64x1x480000 .f32 := broadcastInDim S64x1x480000 ![] bcast_S_S64x1x480000 main_cst_7
  let main_v28 : FVec F S64x1x480000 .f32 := mulf main_v27 main_v26
  let main_v29 : FVec F S64x1x480000 .f32 := subf main_v22 main_v28
  let main_v30 : FVec F S64x1x10 .f32 := (extractStridedSlice S64x1x10 ![0, 0, 0] · slices_S64x1x480000_S64x1x10_0_0_0) main_arg0
  let main_cst_8 : FVec F S_ .f32 := constant S_ .f32 0x00000000#32
  let main_v31 : FVec F S64x1x10 .f32 := broadcastInDim S64x1x10 ![] bcast_S_S64x1x10 main_cst_8
  let main_v32 : FVec F S64x1x479990 .f32 := (extractStridedSlice S64x1x479990 ![0, 0, 0] · slices_S64x1x480000_S64x1x479990_0_0_0) main_arg0
  let main_v33 : FVec F S64x1x480000 .f32 := (fun a b => concatenate S64x1x480000 2 [⟨S64x1x10, a⟩, ⟨S64x1x479990, b⟩] concatenates_S64x1x10_S64x1x479990_S64x1x480000_d2) main_v31 main_v32
  let main_cst_9 : FVec F S_ .f32 := constant S_ .f32 0x3E2F9D96#32
  let main_v34 : FVec F S64x1x480000 .f32 := broadcastInDim S64x1x480000 ![] bcast_S_S64x1x480000 main_cst_9
  let main_v35 : FVec F S64x1x480000 .f32 := mulf main_v34 main_v33
  let main_cst_10 : FVec F S_ .f32 := constant S_ .f32 0x3E2F9D96#32
  fn_part2 (F := F) main_arg1 main_v29 main_v35 main_cst_10

def fn {F : FTy → Type} [FloatOps F] (main_arg0 : FVec F S64x1x480000 .f32) (main_arg1 : FVec F S64x1x480000 .f32) : IVec S64x1x480000 1 :=
  let main_cst : FVec F S_ .f32 := constant S_ .f32 0x3E2F9D96#32
  let main_v0 : FVec F S64x1x480000 .f32 := broadcastInDim S64x1x480000 ![] bcast_S_S64x1x480000 main_cst
  let main_v1 : FVec F S64x1x480000 .f32 := mulf main_v0 main_arg0
  let main_v2 : FVec F S64x1x1 .f32 := (extractStridedSlice S64x1x1 ![0, 0, 0] · slices_S64x1x480000_S64x1x1_0_0_0) main_arg0
  let main_cst_0 : FVec F S_ .f32 := constant S_ .f32 0x00000000#32
  let main_v3 : FVec F S64x1x1 .f32 := broadcastInDim S64x1x1 ![] bcast_S_S64x1x1 main_cst_0
  let main_v4 : FVec F S64x1x479999 .f32 := (extractStridedSlice S64x1x479999 ![0, 0, 0] · slices_S64x1x480000_S64x1x479999_0_0_0) main_arg0
  let main_v5 : FVec F S64x1x480000 .f32 := (fun a b => concatenate S64x1x480000 2 [⟨S64x1x1, a⟩, ⟨S64x1x479999, b⟩] concatenates_S64x1x1_S64x1x479999_S64x1x480000_d2) main_v3 main_v4
  let main_cst_1 : FVec F S_ .f32 := constant S_ .f32 0x80000000#32
  let main_v6 : FVec F S64x1x480000 .f32 := broadcastInDim S64x1x480000 ![] bcast_S_S64x1x480000 main_cst_1
  let main_v7 : FVec F S64x1x480000 .f32 := mulf main_v6 main_v5
  let main_v8 : FVec F S64x1x480000 .f32 := addf main_v1 main_v7
  let main_v9 : FVec F S64x1x2 .f32 := (extractStridedSlice S64x1x2 ![0, 0, 0] · slices_S64x1x480000_S64x1x2_0_0_0) main_arg0
  let main_cst_2 : FVec F S_ .f32 := constant S_ .f32 0x00000000#32
  let main_v10 : FVec F S64x1x2 .f32 := broadcastInDim S64x1x2 ![] bcast_S_S64x1x2 main_cst_2
  let main_v11 : FVec F S64x1x479998 .f32 := (extractStridedSlice S64x1x479998 ![0, 0, 0] · slices_S64x1x480000_S64x1x479998_0_0_0) main_arg0
  let main_v12 : FVec F S64x1x480000 .f32 := (fun a b => concatenate S64x1x480000 2 [⟨S64x1x2, a⟩, ⟨S64x1x479998, b⟩] concatenates_S64x1x2_S64x1x479998_S64x1x480000_d2) main_v10 main_v11
  let main_cst_3 : FVec F S_ .f32 := constant S_ .f32 0x3F800000#32
  let main_v13 : FVec F S64x1x480000 .f32 := broadcastInDim S64x1x480000 ![] bcast_S_S64x1x480000 main_cst_3
  let main_v14 : FVec F S64x1x480000 .f32 := mulf main_v13 main_v12
  let main_v15 : FVec F S64x1x480000 .f32 := addf main_v8 main_v14
  let main_v16 : FVec F S64x1x1 .f32 := (extractStridedSlice S64x1x1 ![0, 0, 0] · slices_S64x1x480000_S64x1x1_0_0_0) main_arg1
  let main_cst_4 : FVec F S_ .f32 := constant S_ .f32 0x00000000#32
  let main_v17 : FVec F S64x1x1 .f32 := broadcastInDim S64x1x1 ![] bcast_S_S64x1x1 main_cst_4
  fn_part1 (F := F) main_arg0 main_arg1 main_v15 main_v17
-- ==== Post_near.lean ====
abbrev S64x1x480000 : Shape := ⟨3, ![64, 1, 480000]⟩
abbrev S_ : Shape := ⟨0, ![]⟩
abbrev S64x1 : Shape := ⟨2, ![64, 1]⟩
abbrev S64x1x1 : Shape := ⟨3, ![64, 1, 1]⟩
abbrev S64x1x10 : Shape := ⟨3, ![64, 1, 10]⟩

class Facts : Prop where
  reducesTo_S64x1x480000_S64x1_d2 : S64x1x480000.ReducesTo [2] S64x1
  h_S_ : 0 < S_.numel
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S64x1x1_S64x1x480000_0_1_2 : S64x1x1.BroadcastsInDim S64x1x480000 (![0, 1, 2] : Fin 3 → Fin S64x1x480000.rank)
  slices_S64x1x480000_S64x1x10_0_0_0 : S64x1x480000.Slices ![0, 0, 0] S64x1x10

variable [Facts]

def fn {F : FTy → Type} [FloatOps F] (main_arg0 : FVec F S64x1x480000 .f32) (main_arg1 : FVec F S64x1x480000 .f32) (main_arg2 : FVec F S64x1x480000 .f32) : IVec S64x1x480000 1 × IVec S64x1x10 1 :=
  let main_v0 : FVec F S64x1x480000 .f32 := Host.absf main_arg0
  let main_cst : FVec F S_ .f32 := constant S_ .f32 0xFF800000#32
  let main_v1 : FVec F S64x1 .f32 := (fun x v => Host.reduce FloatOps.maximumf x v reducesTo_S64x1x480000_S64x1_d2 h_S_) main_v0 main_cst
  let main_v2 : FVec F S64x1x1 .f32 := broadcastInDim S64x1x1 ![0, 1] bcast_S64x1_S64x1x1_0_1 main_v1
  let main_v3 : FVec F S64x1x480000 .f32 := subf main_arg1 main_arg2
  let main_v4 : FVec F S64x1x480000 .f32 := Host.absf main_v3
  let main_cst_0 : FVec F S_ .f32 := constant S_ .f32 0x3A85B185#32
  let main_v5 : FVec F S64x1x1 .f32 := broadcastInDim S64x1x1 ![] bcast_S_S64x1x1 main_cst_0
  let main_v6 : FVec F S64x1x1 .f32 := mulf main_v5 main_v2
  let main_v7 : FVec F S64x1x480000 .f32 := broadcastInDim S64x1x480000 ![0, 1, 2] bcast_S64x1x1_S64x1x480000_0_1_2 main_v6
  let main_v8 : IVec S64x1x480000 1 := cmpf .ole main_v4 main_v7
  let main_v9 : FVec F S64x1x10 .f32 := (extractStridedSlice S64x1x10 ![0, 0, 0] · slices_S64x1x480000_S64x1x10_0_0_0) main_arg1
  let main_v10 : FVec F S64x1x10 .f32 := (extractStridedSlice S64x1x10 ![0, 0, 0] · slices_S64x1x480000_S64x1x10_0_0_0) main_arg2
  let main_v11 : IVec S64x1x10 1 := cmpf .oeq main_v9 main_v10
  (main_v8, main_v11)
-- ==== Pre_finite.lean ====
abbrev S64x1x480000 : Shape := ⟨3, ![64, 1, 480000]⟩
abbrev S_ : Shape := ⟨0, ![]⟩

class Facts : Prop where
  bcast_S_S64x1x480000 : S_.BroadcastsInDim S64x1x480000 (![] : Fin 0 → Fin S64x1x480000.rank)

variable [Facts]

def fn {F : FTy → Type} [FloatOps F] (main_arg0 : FVec F S64x1x480000 .f32) : IVec S64x1x480000 1 :=
  let main_v0 : FVec F S64x1x480000 .f32 := Host.absf main_arg0
  let main_cst : FVec F S_ .f32 := constant S_ .f32 0x7F800000#32
  let main_v1 : FVec F S64x1x480000 .f32 := broadcastInDim S64x1x480000 ![] bcast_S_S64x1x480000 main_cst
  let main_v2 : IVec S64x1x480000 1 := cmpf .olt main_v0 main_v1
  main_v2
-- ==== Kernel.lean ====
abbrev S64x1x480000 : Shape := ⟨3, ![64, 1, 480000]⟩
abbrev S32x1x48000 : Shape := ⟨3, ![32, 1, 48000]⟩
abbrev S32x128 : Shape := ⟨2, ![32, 128]⟩
abbrev S32x48000 : Shape := ⟨2, ![32, 48000]⟩
abbrev S32x2 : Shape := ⟨2, ![32, 2]⟩
abbrev S32x47998 : Shape := ⟨2, ![32, 47998]⟩
abbrev S32x4 : Shape := ⟨2, ![32, 4]⟩
abbrev S32x47996 : Shape := ⟨2, ![32, 47996]⟩
abbrev S32x256 : Shape := ⟨2, ![32, 256]⟩
abbrev S32x254 : Shape := ⟨2, ![32, 254]⟩
abbrev S32x252 : Shape := ⟨2, ![32, 252]⟩
abbrev S32x1x128 : Shape := ⟨3, ![32, 1, 128]⟩

abbrev nBuf : Space → Nat
  | .hbm => 2
  | .vmem => 5
  | .smem => 0
  | _ => 0

abbrev bufTy : (tb : Table) → Fin (tcTables nBuf tb) → BufTy
  | .hbm, ⟨0, _⟩ => ⟨S64x1x480000, .f32⟩
  | .hbm, ⟨1, _⟩ => ⟨S64x1x480000, .f32⟩
  | .local _ .vmem, ⟨0, _⟩ => ⟨S32x1x48000, .f32⟩
  | .local _ .vmem, ⟨1, _⟩ => ⟨S32x1x48000, .f32⟩
  | .local _ .vmem, ⟨2, _⟩ => ⟨S32x1x48000, .f32⟩
  | .local _ .vmem, ⟨3, _⟩ => ⟨S32x1x48000, .f32⟩
  | .local _ .vmem, ⟨4, _⟩ => ⟨S32x128, .f32⟩
  | _, _ => ⟨S64x1x480000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x1x48000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x48000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "one_sub_q2" => some ((1092784819448583 / 1125899906842624 : ℝ) : EReal)
  | "q2" => some ((33115087394041 / 1125899906842624 : ℝ) : EReal)
  | _ => none
-- ==== ReferenceIdeal.lean ====
abbrev S64x1x480000 : Shape := ⟨3, ![64, 1, 480000]⟩
abbrev S64x480000 : Shape := ⟨2, ![64, 480000]⟩
abbrev S480000x64 : Shape := ⟨2, ![480000, 64]⟩
abbrev S_ : Shape := ⟨0, ![]⟩
abbrev S2x64 : Shape := ⟨2, ![2, 64]⟩
abbrev S1x64 : Shape := ⟨2, ![1, 64]⟩
abbrev S64 : Shape := ⟨1, ![64]⟩
abbrev S64x1x8 : Shape := ⟨3, ![64, 1, 8]⟩
abbrev S64x1x479992 : Shape := ⟨3, ![64, 1, 479992]⟩

abbrev nBuf : Space → Nat
  | .hbm => 84
  | .vmem => 0
  | .smem => 0
  | _ => 0

abbrev bufTy : (tb : Table) → Fin (tcTables nBuf tb) → BufTy
  | .hbm, ⟨0, _⟩ => ⟨S64x1x480000, .f32⟩
  | .hbm, ⟨1, _⟩ => ⟨S64x480000, .f32⟩
  | .hbm, ⟨2, _⟩ => ⟨S480000x64, .f32⟩
  | .hbm, ⟨3, _⟩ => ⟨S_, .f32⟩
  | .hbm, ⟨4, _⟩ => ⟨S2x64, .f32⟩
  | .hbm, ⟨5, _⟩ => ⟨S_, .f32⟩
  | .hbm, ⟨6, _⟩ => ⟨S480000x64, .f32⟩
  | .hbm, ⟨7, _⟩ => ⟨S_, .i32⟩
  | .hbm, ⟨8, _⟩ => ⟨S480000x64, .f32⟩
  | .hbm, ⟨9, _⟩ => ⟨S_, .i32⟩
  | .hbm, ⟨10, _⟩ => ⟨S2x64, .f32⟩
  | .hbm, ⟨11, _⟩ => ⟨S2x64, .f32⟩
  | .hbm, ⟨12, _⟩ => ⟨S480000x64, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S2x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S2x64, .f32⟩
  | .hbm, ⟨55, _⟩ => ⟨S1x64, .f32⟩
  | .hbm, ⟨56, _⟩ => ⟨S_, .i32⟩
  | .hbm, ⟨57, _⟩ => ⟨S480000x64, .f32⟩
  | .hbm, ⟨58, _⟩ => ⟨S_, .i32⟩
  | .hbm, ⟨59, _⟩ => ⟨S_, .i32⟩
  | .hbm, ⟨60, _⟩ => ⟨S64x480000, .f32⟩
  | .hbm, ⟨61, _⟩ => ⟨S64x1x480000, .f32⟩
  | .hbm, ⟨62, _⟩ => ⟨S_, .f32⟩
  | .hbm, ⟨63, _⟩ => ⟨S64x1x480000, .f32⟩
  | .hbm, ⟨64, _⟩ => ⟨S64x1x480000, .f32⟩
  | .hbm, ⟨65, _⟩ => ⟨S64x1x480000, .f32⟩
  | .hbm, ⟨66, _⟩ => ⟨S_, .f32⟩
  | .hbm, ⟨67, _⟩ => ⟨S64x1x480000, .f32⟩
  | .hbm, ⟨68, _⟩ => ⟨S64x1x480000, .f32⟩
  | .hbm, ⟨69, _⟩ => ⟨S_, .f32⟩
  | .hbm, ⟨70, _⟩ => ⟨S64x1x480000, .f32⟩
  | .hbm, ⟨71, _⟩ => ⟨S64x1x480000, .f32⟩
  | .hbm, ⟨72, _⟩ => ⟨S_, .f32⟩
  | .hbm, ⟨73, _⟩ => ⟨S64x1x480000, .f32⟩
  | .hbm, ⟨74, _⟩ => ⟨S64x1x480000, .f32⟩
  | .hbm, ⟨75, _⟩ => ⟨S_, .f32⟩
  | .hbm, ⟨76, _⟩ => ⟨S64x1x480000, .f32⟩
  | .hbm, ⟨77, _⟩ => ⟨S64x1x480000, .f32⟩
  | .hbm, ⟨78, _⟩ => ⟨S64x1x8, .f32⟩
  | .hbm, ⟨79, _⟩ => ⟨S_, .f32⟩
  | .hbm, ⟨80, _⟩ => ⟨S64x1x8, .f32⟩
  | .hbm, ⟨81, _⟩ => ⟨S64x1x479992, .f32⟩
  | .hbm, ⟨82, _⟩ => ⟨S64x1x480000, .f32⟩
  | .hbm, ⟨83, _⟩ => ⟨S64x1x480000, .f32⟩
  | _, _ => ⟨S64x1x480000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_c : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_while0c_c_11 : Ref sig .tc := ⟨.hbm, 13, rfl⟩
abbrev main_while0c_v23 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v23 : Ref sig .tc := ⟨.hbm, 17, rfl⟩
abbrev main_while0b_cst_11 : Ref sig .tc := ⟨.hbm, 18, rfl⟩
abbrev main_while0b_v24 : Ref sig .tc := ⟨.hbm, 19, rfl⟩
abbrev main_while0b_v25 : Ref sig .tc := ⟨.hbm, 20, rfl⟩
abbrev main_while0b_v26 : Ref sig .tc := ⟨.hbm, 21, rfl⟩
abbrev main_while0b_v27 : Ref sig .tc := ⟨.hbm, 22, rfl⟩
abbrev main_while0b_cst_12 : Ref sig .tc := ⟨.hbm, 23, rfl⟩
abbrev main_while0b_v28 : Ref sig .tc := ⟨.hbm, 24, rfl⟩
abbrev main_while0b_v29 : Ref sig .tc := ⟨.hbm, 25, rfl⟩
abbrev main_while0b_v30 : Ref sig .tc := ⟨.hbm, 26, rfl⟩
abbrev main_while0b_v31 : Ref sig .tc := ⟨.hbm, 27, rfl⟩
abbrev main_while0b_v32 : Ref sig .tc := ⟨.hbm, 28, rfl⟩
abbrev main_while0b_cst_13 : Ref sig .tc := ⟨.hbm, 29, rfl⟩
abbrev main_while0b_v33 : Ref sig .tc := ⟨.hbm, 30, rfl⟩
abbrev main_while0b_v34 : Ref sig .tc := ⟨.hbm, 31, rfl⟩
abbrev main_while0b_v35 : Ref sig .tc := ⟨.hbm, 32, rfl⟩
abbrev main_while0b_v36 : Ref sig .tc := ⟨.hbm, 33, rfl⟩
abbrev main_while0b_v37 : Ref sig .tc := ⟨.hbm, 34, rfl⟩
abbrev main_while0b_cst_14 : Ref sig .tc := ⟨.hbm, 35, rfl⟩
abbrev main_while0b_v38 : Ref sig .tc := ⟨.hbm, 36, rfl⟩
abbrev main_while0b_v39 : Ref sig .tc := ⟨.hbm, 37, rfl⟩
abbrev main_while0b_v40 : Ref sig .tc := ⟨.hbm, 38, rfl⟩
abbrev main_while0b_v41 : Ref sig .tc := ⟨.hbm, 39, rfl⟩
abbrev main_while0b_v42 : Ref sig .tc := ⟨.hbm, 40, rfl⟩
abbrev main_while0b_cst_15 : Ref sig .tc := ⟨.hbm, 41, rfl⟩
abbrev main_while0b_v43 : Ref sig .tc := ⟨.hbm, 42, rfl⟩
abbrev main_while0b_v44 : Ref sig .tc := ⟨.hbm, 43, rfl⟩
abbrev main_while0b_v45 : Ref sig .tc := ⟨.hbm, 44, rfl⟩
abbrev main_while0b_v46 : Ref sig .tc := ⟨.hbm, 45, rfl⟩
abbrev main_while0b_v47 : Ref sig .tc := ⟨.hbm, 46, rfl⟩
abbrev main_while0b_v48 : Ref sig .tc := ⟨.hbm, 47, rfl⟩
abbrev main_while0b_v49 : Ref sig .tc := ⟨.hbm, 48, rfl⟩
abbrev main_while0b_v50 : Ref sig .tc := ⟨.hbm, 49, rfl⟩
abbrev main_while0b_v51 : Ref sig .tc := ⟨.hbm, 50, rfl⟩
abbrev main_while0b_v52 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_call1_v0 : Ref sig .tc := ⟨.hbm, 55, rfl⟩
abbrev main_while0b_call1_c : Ref sig .tc := ⟨.hbm, 56, rfl⟩
abbrev main_while0b_v56 : Ref sig .tc := ⟨.hbm, 57, rfl⟩
abbrev main_while0b_c_16 : Ref sig .tc := ⟨.hbm, 58, rfl⟩
abbrev main_while0b_v57 : Ref sig .tc := ⟨.hbm, 59, rfl⟩
abbrev main_v5 : Ref sig .tc := ⟨.hbm, 60, rfl⟩
abbrev main_v6 : Ref sig .tc := ⟨.hbm, 61, rfl⟩
abbrev main_cst_1 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_cst_2 : Ref sig .tc := ⟨.hbm, 66, rfl⟩
abbrev main_v10 : Ref sig .tc := ⟨.hbm, 67, rfl⟩
abbrev main_v11 : Ref sig .tc := ⟨.hbm, 68, rfl⟩
abbrev main_cst_3 : Ref sig .tc := ⟨.hbm, 69, rfl⟩
abbrev main_v12 : Ref sig .tc := ⟨.hbm, 70, rfl⟩
abbrev main_v13 : Ref sig .tc := ⟨.hbm, 71, rfl⟩
abbrev main_cst_4 : Ref sig .tc := ⟨.hbm, 72, rfl⟩
abbrev main_v14 : Ref sig .tc := ⟨.hbm, 73, rfl⟩
abbrev main_v15 : Ref sig .tc := ⟨.hbm, 74, rfl⟩
abbrev main_cst_5 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_6 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩

abbrev nD : Nat := 1
abbrev τ : Topo := Topo.v7x

variable {F : FTy → Type} [FloatOps F]

abbrev main_while0_count : Scf.Loop 32 := ⟨0#32, 480000#32, 1#32⟩
-- ==== BothIdeal.lean ====
abbrev S64x1x480000 : Shape := ⟨3, ![64, 1, 480000]⟩
abbrev S64x480000 : Shape := ⟨2, ![64, 480000]⟩
abbrev S480000x64 : Shape := ⟨2, ![480000, 64]⟩
abbrev S_ : Shape := ⟨0, ![]⟩
abbrev S2x64 : Shape := ⟨2, ![2, 64]⟩
abbrev S1x64 : Shape := ⟨2, ![1, 64]⟩
abbrev S64 : Shape := ⟨1, ![64]⟩
abbrev S64x1x8 : Shape := ⟨3, ![64, 1, 8]⟩
abbrev S64x1x479992 : Shape := ⟨3, ![64, 1, 479992]⟩

abbrev nBuf : Space → Nat
  | .hbm => 84
  | .vmem => 0
  | .smem => 0
  | _ => 0

abbrev bufTy : (tb : Table) → Fin (tcTables nBuf tb) → BufTy
  | .hbm, ⟨0, _⟩ => ⟨S64x1x480000, .f32⟩
  | .hbm, ⟨1, _⟩ => ⟨S64x480000, .f32⟩
  | .hbm, ⟨2, _⟩ => ⟨S480000x64, .f32⟩
  | .hbm, ⟨3, _⟩ => ⟨S_, .f32⟩
  | .hbm, ⟨4, _⟩ => ⟨S2x64, .f32⟩
  | .hbm, ⟨5, _⟩ => ⟨S_, .f32⟩
  | .hbm, ⟨6, _⟩ => ⟨S480000x64, .f32⟩
  | .hbm, ⟨7, _⟩ => ⟨S_, .i32⟩
  | .hbm, ⟨8, _⟩ => ⟨S480000x64, .f32⟩
  | .hbm, ⟨9, _⟩ => ⟨S_, .i32⟩
  | .hbm, ⟨10, _⟩ => ⟨S2x64, .f32⟩
  | .hbm, ⟨11, _⟩ => ⟨S2x64, .f32⟩
  | .hbm, ⟨12, _⟩ => ⟨S480000x64, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S2x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S2x64, .f32⟩
  | .hbm, ⟨55, _⟩ => ⟨S1x64, .f32⟩
  | .hbm, ⟨56, _⟩ => ⟨S_, .i32⟩
  | .hbm, ⟨57, _⟩ => ⟨S480000x64, .f32⟩
  | .hbm, ⟨58, _⟩ => ⟨S_, .i32⟩
  | .hbm, ⟨59, _⟩ => ⟨S_, .i32⟩
  | .hbm, ⟨60, _⟩ => ⟨S64x480000, .f32⟩
  | .hbm, ⟨61, _⟩ => ⟨S64x1x480000, .f32⟩
  | .hbm, ⟨62, _⟩ => ⟨S_, .f32⟩
  | .hbm, ⟨63, _⟩ => ⟨S64x1x480000, .f32⟩
  | .hbm, ⟨64, _⟩ => ⟨S64x1x480000, .f32⟩
  | .hbm, ⟨65, _⟩ => ⟨S64x1x480000, .f32⟩
  | .hbm, ⟨66, _⟩ => ⟨S_, .f32⟩
  | .hbm, ⟨67, _⟩ => ⟨S64x1x480000, .f32⟩
  | .hbm, ⟨68, _⟩ => ⟨S64x1x480000, .f32⟩
  | .hbm, ⟨69, _⟩ => ⟨S_, .f32⟩
  | .hbm, ⟨70, _⟩ => ⟨S64x1x480000, .f32⟩
  | .hbm, ⟨71, _⟩ => ⟨S64x1x480000, .f32⟩
  | .hbm, ⟨72, _⟩ => ⟨S_, .f32⟩
  | .hbm, ⟨73, _⟩ => ⟨S64x1x480000, .f32⟩
  | .hbm, ⟨74, _⟩ => ⟨S64x1x480000, .f32⟩
  | .hbm, ⟨75, _⟩ => ⟨S_, .f32⟩
  | .hbm, ⟨76, _⟩ => ⟨S64x1x480000, .f32⟩
  | .hbm, ⟨77, _⟩ => ⟨S64x1x480000, .f32⟩
  | .hbm, ⟨78, _⟩ => ⟨S64x1x8, .f32⟩
  | .hbm, ⟨79, _⟩ => ⟨S_, .f32⟩
  | .hbm, ⟨80, _⟩ => ⟨S64x1x8, .f32⟩
  | .hbm, ⟨81, _⟩ => ⟨S64x1x479992, .f32⟩
  | .hbm, ⟨82, _⟩ => ⟨S64x1x480000, .f32⟩
  | .hbm, ⟨83, _⟩ => ⟨S64x1x480000, .f32⟩
  | _, _ => ⟨S64x1x480000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_c : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_while0c_c_11 : Ref sig .tc := ⟨.hbm, 13, rfl⟩
abbrev main_while0c_v23 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v23 : Ref sig .tc := ⟨.hbm, 17, rfl⟩
abbrev main_while0b_cst_11 : Ref sig .tc := ⟨.hbm, 18, rfl⟩
abbrev main_while0b_v24 : Ref sig .tc := ⟨.hbm, 19, rfl⟩
abbrev main_while0b_v25 : Ref sig .tc := ⟨.hbm, 20, rfl⟩
abbrev main_while0b_v26 : Ref sig .tc := ⟨.hbm, 21, rfl⟩
abbrev main_while0b_v27 : Ref sig .tc := ⟨.hbm, 22, rfl⟩
abbrev main_while0b_cst_12 : Ref sig .tc := ⟨.hbm, 23, rfl⟩
abbrev main_while0b_v28 : Ref sig .tc := ⟨.hbm, 24, rfl⟩
abbrev main_while0b_v29 : Ref sig .tc := ⟨.hbm, 25, rfl⟩
abbrev main_while0b_v30 : Ref sig .tc := ⟨.hbm, 26, rfl⟩
abbrev main_while0b_v31 : Ref sig .tc := ⟨.hbm, 27, rfl⟩
abbrev main_while0b_v32 : Ref sig .tc := ⟨.hbm, 28, rfl⟩
abbrev main_while0b_cst_13 : Ref sig .tc := ⟨.hbm, 29, rfl⟩
abbrev main_while0b_v33 : Ref sig .tc := ⟨.hbm, 30, rfl⟩
abbrev main_while0b_v34 : Ref sig .tc := ⟨.hbm, 31, rfl⟩
abbrev main_while0b_v35 : Ref sig .tc := ⟨.hbm, 32, rfl⟩
abbrev main_while0b_v36 : Ref sig .tc := ⟨.hbm, 33, rfl⟩
abbrev main_while0b_v37 : Ref sig .tc := ⟨.hbm, 34, rfl⟩
abbrev main_while0b_cst_14 : Ref sig .tc := ⟨.hbm, 35, rfl⟩
abbrev main_while0b_v38 : Ref sig .tc := ⟨.hbm, 36, rfl⟩
abbrev main_while0b_v39 : Ref sig .tc := ⟨.hbm, 37, rfl⟩
abbrev main_while0b_v40 : Ref sig .tc := ⟨.hbm, 38, rfl⟩
abbrev main_while0b_v41 : Ref sig .tc := ⟨.hbm, 39, rfl⟩
abbrev main_while0b_v42 : Ref sig .tc := ⟨.hbm, 40, rfl⟩
abbrev main_while0b_cst_15 : Ref sig .tc := ⟨.hbm, 41, rfl⟩
abbrev main_while0b_v43 : Ref sig .tc := ⟨.hbm, 42, rfl⟩
abbrev main_while0b_v44 : Ref sig .tc := ⟨.hbm, 43, rfl⟩
abbrev main_while0b_v45 : Ref sig .tc := ⟨.hbm, 44, rfl⟩
abbrev main_while0b_v46 : Ref sig .tc := ⟨.hbm, 45, rfl⟩
abbrev main_while0b_v47 : Ref sig .tc := ⟨.hbm, 46, rfl⟩
abbrev main_while0b_v48 : Ref sig .tc := ⟨.hbm, 47, rfl⟩
abbrev main_while0b_v49 : Ref sig .tc := ⟨.hbm, 48, rfl⟩
abbrev main_while0b_v50 : Ref sig .tc := ⟨.hbm, 49, rfl⟩
abbrev main_while0b_v51 : Ref sig .tc := ⟨.hbm, 50, rfl⟩
abbrev main_while0b_v52 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_call1_v0 : Ref sig .tc := ⟨.hbm, 55, rfl⟩
abbrev main_while0b_call1_c : Ref sig .tc := ⟨.hbm, 56, rfl⟩
abbrev main_while0b_v56 : Ref sig .tc := ⟨.hbm, 57, rfl⟩
abbrev main_while0b_c_16 : Ref sig .tc := ⟨.hbm, 58, rfl⟩
abbrev main_while0b_v57 : Ref sig .tc := ⟨.hbm, 59, rfl⟩
abbrev main_v5 : Ref sig .tc := ⟨.hbm, 60, rfl⟩
abbrev main_v6 : Ref sig .tc := ⟨.hbm, 61, rfl⟩
abbrev main_cst_1 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_cst_2 : Ref sig .tc := ⟨.hbm, 66, rfl⟩
abbrev main_v10 : Ref sig .tc := ⟨.hbm, 67, rfl⟩
abbrev main_v11 : Ref sig .tc := ⟨.hbm, 68, rfl⟩
abbrev main_cst_3 : Ref sig .tc := ⟨.hbm, 69, rfl⟩
abbrev main_v12 : Ref sig .tc := ⟨.hbm, 70, rfl⟩
abbrev main_v13 : Ref sig .tc := ⟨.hbm, 71, rfl⟩
abbrev main_cst_4 : Ref sig .tc := ⟨.hbm, 72, rfl⟩
abbrev main_v14 : Ref sig .tc := ⟨.hbm, 73, rfl⟩
abbrev main_v15 : Ref sig .tc := ⟨.hbm, 74, rfl⟩
abbrev main_cst_5 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_6 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩

abbrev nD : Nat := 1
abbrev τ : Topo := Topo.v7x

variable {F : FTy → Type} [FloatOps F]

abbrev main_while0_count : Scf.Loop 32 := ⟨0#32, 480000#32, 1#32⟩
-- ==== Proof.KernelBody.lean ====
/-
  One grid point of the kernel: what the body leaves in its output block and in the carried scratch.

  A point reads a block of 32 rows and 48000 samples and the scratch, which holds the 128 samples before the block. It
  stores the filter of the block alone, then overwrites the first 128 samples by the filter of `[scratch | first 128
  samples]`, and leaves the block's last 128 samples in the scratch. Reading each stored value at an index gives ONE
  formula for all 48000 lanes: `tapSum`, the nine-tap filter, of the block preceded by the scratch.
-/
module

public import proofs.«01_k».proof.Proof.Gen.KernelIdeal.Frame
public import Idealize.ShloMosaic.Lib.Pipeline.Value
public import Idealize.ShloMosaic.Lib.ValueIdx

@[expose] public section

noncomputable section

namespace Cert.KernelIdeal.Body

open Cert.KernelIdeal Cert.KernelIdeal.Gen Idealize.ShloMosaic Idealize.ShloMosaic.TcCoe Idealize.ShloMosaic.ValueIdx

/-! ## The stores of a point -/

section Stores

variable {F : FTy → Type} [FloatOps F] [Named F]

theorem hz2 : (![0, 0] : Fin 2 → Nat) = fun _ => 0 := by decide
theorem hz3 : (![0, 0, 0] : Fin 3 → Nat) = fun _ => 0 := by decide

/-- The block a point leaves: the filtered block, its first 128 lanes overwritten by the filter that reads the scratch. -/
def stored (x : Vec F S32x1x48000 .f32) (h : Vec F S32x128 .f32) : Vec F S32x1x48000 .f32 :=
  View.canon [(⟨Rect.unit ![0, 0, 0] S32x1x128.size inb_S32x1x48000_S32x1x128_0_0_0,
      k0_pay2 (k0_pay8 x h) (k0_pay9 x h) (k0_pay10 x h) k0_pay11⟩ : View.Piece (Elt F) S32x1x48000 .f32),
    ⟨Rect.unit ![0, 0, 0] S32x1x48000.size inb_S32x1x48000_S32x1x48000_0_0_0, k0_pay1 (k0_pay6 x)⟩]

variable (c : Dev nD) (i : grid0.Coords) (a2 : Memref sig .tc .vmem S32x1x48000 .f32) (h2 : a2.IsWhole)
  (a3 : Memref sig .tc .vmem S32x1x48000 .f32) (h3 : a3.IsWhole) (a4 : Memref sig .tc .vmem S32x128 .f32) (h4 : a4.IsWhole)

set_option maxRecDepth 16384 in
/-- At a point that does not reset the scratch, the output block is made from the block read and the scratch found. -/
theorem out_B (hc : ¬cond0_0 i) (x : Vec F S32x1x48000 .f32) (h : Vec F S32x128 .f32) :
    out0_B_1 c i a2 h2 a3 h3 a4 h4 hc x h = stored x h := by
  unfold out0_B_1
  rw [View.read_writes_eq_canon _ _ _ (cover0_B_1 c i a2 h2 a3 h3 a4 h4 hc x h)]
  unfold kernelRun0_B stored
  dsimp only
  sl_unfold_words
  simp only [View.readAt_eq_ld, h2.read_unread, h4.read_unread, View.ld_unit_zero (S := S32x1x48000) hz3,
    View.ld_unit_zero (S := S32x128) hz2]

set_option maxRecDepth 16384 in
/-- … and the scratch is left at the block's last 128 lanes. -/
theorem sout_B (hc : ¬cond0_0 i) (x : Vec F S32x1x48000 .f32) (h : Vec F S32x128 .f32) :
    sout0_B_0 c i a2 h2 a3 h3 a4 h4 hc x h = k0_pay3 (k0_pay5 x) := by
  unfold sout0_B_0
  rw [View.read_writes_eq_canon _ _ _ (scover0_B_0 c i a2 h2 a3 h3 a4 h4 hc x h)]
  unfold kernelRun0_B
  dsimp only
  sl_unfold_words
  rw [View.canon_unit_zero (S := S32x128) hz2]
  simp only [View.readAt_eq_ld, h2.read_unread, View.ld_unit_zero (S := S32x1x48000) hz3]

set_option maxRecDepth 16384 in
/-- At a point that resets the scratch, the output block is made from the block read and the zero scratch. -/
theorem out_A (hc : cond0_0 i) (x : Vec F S32x1x48000 .f32) :
    out0_A_1 c i a2 h2 a3 h3 a4 h4 hc x = stored x k0_pay4 := by
  unfold out0_A_1
  rw [View.read_writes_eq_canon _ _ _ (cover0_A_1 c i a2 h2 a3 h3 a4 h4 hc x)]
  unfold kernelRun0_A stored
  dsimp only
  sl_unfold_words
  simp only [View.readAt_eq_ld, h2.read_unread, View.ld_unit_zero (S := S32x1x48000) hz3,
    View.readCov_unit_zero (S := S32x128) _ hz2]

set_option maxRecDepth 16384 in
/-- … and the scratch is left at the block's last 128 lanes. -/
theorem sout_A (hc : cond0_0 i) (x : Vec F S32x1x48000 .f32) :
    sout0_A_0 c i a2 h2 a3 h3 a4 h4 hc x = k0_pay3 (k0_pay5 x) := by
  unfold sout0_A_0
  rw [View.read_writes_eq_canon _ _ _ (scover0_A_0 c i a2 h2 a3 h3 a4 h4 hc x)]
  unfold kernelRun0_A
  dsimp only
  sl_unfold_words
  rw [View.canon_cons_unit_zero (S := S32x128) hz2]
  simp only [View.readAt_eq_ld, h2.read_unread, View.ld_unit_zero (S := S32x1x48000) hz3]

end Stores

/-! ## Rows: a matrix's row as a sequence -/

section Rows

variable {R N : ℕ}

/-- Row `r` of a matrix as a sequence, zero past its end. -/
def row (a : FVec Ideal ⟨2, ![R, N]⟩ .f32) (r : Fin R) (n : ℕ) : EReal :=
  if h : n < N then a (ix2 r ⟨n, h⟩) else 0

theorem row_of_lt (a : FVec Ideal ⟨2, ![R, N]⟩ .f32) (r : Fin R) (n : ℕ) (h : n < N) : row a r n = a (ix2 r ⟨n, h⟩) :=
  dif_pos h

theorem row_addf (a b : FVec Ideal ⟨2, ![R, N]⟩ .f32) (r : Fin R) (n : ℕ) (h : n < N) :
    row (addf a b) r n = row a r n + row b r n := by
  rw [row_of_lt _ _ _ h, row_of_lt _ _ _ h, row_of_lt _ _ _ h]; rfl

theorem row_scale (c : Ideal .f32) (a : FVec Ideal ⟨2, ![R, N]⟩ .f32) (r : Fin R) (n : ℕ) (h : n < N) :
    row (mulf (broadcast ⟨2, ![R, N]⟩ c) a) r n = c * row a r n := by
  rw [row_of_lt _ _ _ h, row_of_lt _ _ _ h]; rfl

/-- The first columns of a matrix. -/
theorem slice_apply {e off : ℕ} (a : FVec Ideal ⟨2, ![R, N]⟩ .f32)
    (h : (⟨2, ![R, N]⟩ : Shape).Slices ![0, off] ⟨2, ![R, e]⟩) (r : Fin R) (l : Fin e) (hl : off + l.val < N) :
    extractStridedSlice ⟨2, ![R, e]⟩ ![0, off] a h (ix2 r l) = a (ix2 r ⟨off + l.val, hl⟩) := by
  refine extractStridedSlice_apply _ _ _ _ _ ?_
  intro b
  match b with
  | ⟨0, _⟩ => exact (Nat.zero_add r.val).symm
  | ⟨1, _⟩ => rfl

/-- Two matrices side by side: a column past the first is the second's. -/
theorem beside_right {d e : ℕ} (a : FVec Ideal ⟨2, ![R, d]⟩ .f32) (b : FVec Ideal ⟨2, ![R, e]⟩ .f32)
    (h : Shape.Concatenates [⟨2, ![R, d]⟩, ⟨2, ![R, e]⟩] ⟨2, ![R, N]⟩ 1) (r : Fin R) (l : Fin N) (k : Fin e)
    (hk : k.val + d = l.val) :
    concatenate ⟨2, ![R, N]⟩ 1 [⟨⟨2, ![R, d]⟩, a⟩, ⟨⟨2, ![R, e]⟩, b⟩] h (ix2 r l) = b (ix2 r k) := by
  refine concatenate_pair_apply_right 1 a b h (ix2 r l) rfl rfl (ix2 r k) ?_ hk
  intro x hx
  match x with
  | ⟨0, _⟩ => rfl
  | ⟨1, _⟩ => exact absurd rfl hx

/-- … and a column of the first is the first's. -/
theorem beside_left {d e : ℕ} (a : FVec Ideal ⟨2, ![R, d]⟩ .f32) (b : FVec Ideal ⟨2, ![R, e]⟩ .f32)
    (h : Shape.Concatenates [⟨2, ![R, d]⟩, ⟨2, ![R, e]⟩] ⟨2, ![R, N]⟩ 1) (r : Fin R) (l : Fin N) (k : Fin d)
    (hk : k.val = l.val) :
    concatenate ⟨2, ![R, N]⟩ 1 [⟨⟨2, ![R, d]⟩, a⟩, ⟨⟨2, ![R, e]⟩, b⟩] h (ix2 r l) = a (ix2 r k) := by
  refine concatenate_pair_apply_left 1 a b h (ix2 r l) rfl (ix2 r k) ?_
  intro x
  match x with
  | ⟨0, _⟩ => rfl
  | ⟨1, _⟩ => exact hk

/-- The kernel's delay by `d`, `[a[:, :d], a[:, :N - d]]`: from column `d` on, the row `d` samples earlier. -/
theorem row_delay {d e : ℕ} (a : FVec Ideal ⟨2, ![R, N]⟩ .f32) (h1 : (⟨2, ![R, N]⟩ : Shape).Slices ![0, 0] ⟨2, ![R, d]⟩)
    (h2 : (⟨2, ![R, N]⟩ : Shape).Slices ![0, 0] ⟨2, ![R, e]⟩)
    (h : Shape.Concatenates [⟨2, ![R, d]⟩, ⟨2, ![R, e]⟩] ⟨2, ![R, N]⟩ 1) (r : Fin R) (n : ℕ) (hn : n < N) (hd : d ≤ n)
    (he : N = d + e) :
    row (concatenate ⟨2, ![R, N]⟩ 1 [⟨⟨2, ![R, d]⟩, extractStridedSlice ⟨2, ![R, d]⟩ ![0, 0] a h1⟩,
      ⟨⟨2, ![R, e]⟩, extractStridedSlice ⟨2, ![R, e]⟩ ![0, 0] a h2⟩] h) r n = row a r (n - d) := by
  rw [row_of_lt _ _ _ hn, row_of_lt _ _ _ (by omega), beside_right _ _ h r ⟨n, hn⟩ ⟨n - d, by omega⟩ (by simp; omega),
    slice_apply _ _ _ _ (by simp; omega)]
  congr 2
  exact Fin.ext (Nat.zero_add _)

end Rows

/-! ## The stored values at an index -/

section Values

/-- The kernel's filter of a sequence: taps at lags 0, 2, 4, 6, 8, grouped as the kernel groups them. -/
def tapSum (w : ℕ → EReal) (n : ℕ) : EReal :=
  (Scalar.ofBits .f32 0x3E2F9D96#32 : Ideal .f32) * w n +
    (Named.named κ "one_sub_q2" 0x3F787873#32 : Ideal .f32) *
      ((w (n - 2) + (Scalar.ofBits .f32 0xBE2F9D96#32 : Ideal .f32) * w (n - 4)) +
        (Named.named κ "q2" 0x3CF0F1A8#32 : Ideal .f32) *
          (w (n - 6) + (Scalar.ofBits .f32 0xBE2F9D96#32 : Ideal .f32) * w (n - 8)))

/-- The filter reads a sequence at five places only. -/
theorem tapSum_congr {w w' : ℕ → EReal} {n n' : ℕ} (h0 : w n = w' n') (h2 : w (n - 2) = w' (n' - 2))
    (h4 : w (n - 4) = w' (n' - 4)) (h6 : w (n - 6) = w' (n' - 6)) (h8 : w (n - 8) = w' (n' - 8)) :
    tapSum w n = tapSum w' n' := by
  unfold tapSum; rw [h0, h2, h4, h6, h8]

variable (x : Vec Ideal S32x1x48000 .f32) (h : Vec Ideal S32x128 .f32)

/-- From lane 8 on, the filter of the block alone is the filter of its rows. -/
theorem row_pay6 (r : Fin 32) (n : ℕ) (hn : n < 48000) (h8 : 8 ≤ n) :
    row (k0_pay6 x) r n = tapSum (row (k0_pay5 x) r) n := by
  unfold k0_pay6
  dsimp only
  rw [row_addf _ _ _ _ hn, row_scale _ _ _ _ hn, row_scale _ _ _ _ hn, row_addf _ _ _ _ hn, row_scale _ _ _ _ hn,
    row_delay _ _ _ _ _ _ hn (by omega) (by norm_num), row_addf _ _ _ _ hn, row_scale _ _ _ _ hn,
    row_delay _ _ _ _ _ _ hn (by omega) (by norm_num), row_delay _ _ _ _ _ _ hn (by omega) (by norm_num),
    row_addf _ _ _ _ (by omega), row_scale _ _ _ _ (by omega), row_delay _ _ _ _ _ _ (by omega) (by omega) (by norm_num),
    row_delay _ _ _ _ _ _ (by omega) (by omega) (by norm_num)]
  unfold tapSum
  rw [Nat.sub_sub, Nat.sub_sub]

/-- The filter of the scratch followed by the block's first 128 lanes, from lane 8 on. -/
theorem row_edge (r : Fin 32) (n : ℕ) (hn : n < 256) (h8 : 8 ≤ n) :
    row (addf (k0_pay8 x h) (mulf (broadcast S32x256 (Named.named κ "one_sub_q2" 0x3F787873#32 : Ideal .f32))
      (addf (k0_pay9 x h) (mulf (k0_pay11 (F := Ideal)) (k0_pay10 x h))))) r n = tapSum (row (k0_pay7 x h) r) n := by
  unfold k0_pay8 k0_pay10 k0_pay11 k0_pay9
  dsimp only
  rw [row_addf _ _ _ _ hn, row_scale _ _ _ _ hn, row_scale _ _ _ _ hn, row_addf _ _ _ _ hn, row_scale _ _ _ _ hn,
    row_delay _ _ _ _ _ _ hn (by omega) (by norm_num), row_addf _ _ _ _ hn, row_scale _ _ _ _ hn,
    row_delay _ _ _ _ _ _ hn (by omega) (by norm_num), row_delay _ _ _ _ _ _ hn (by omega) (by norm_num),
    row_addf _ _ _ _ (by omega), row_scale _ _ _ _ (by omega), row_delay _ _ _ _ _ _ (by omega) (by omega) (by norm_num),
    row_delay _ _ _ _ _ _ (by omega) (by omega) (by norm_num)]
  unfold tapSum
  rw [Nat.sub_sub, Nat.sub_sub]

/-- The block without its unit axis. -/
theorem row_pay5 (r : Fin 32) (n : ℕ) (hn : n < 48000) : row (k0_pay5 x) r n = x (ix3 r 0 ⟨n, hn⟩) := by
  rw [row_of_lt _ _ _ hn]
  unfold k0_pay5
  refine shapeCast_apply _ _ _ _ ?_
  show (Shape.rowMajorPi ![32, 1, 48000] (ix3 r (0 : Fin 1) (⟨n, hn⟩ : Fin 48000))).val =
    (Shape.rowMajorPi ![32, 48000] (ix2 r (⟨n, hn⟩ : Fin 48000))).val
  simp [Shape.rowMajorPi_succ_val, Shape.rowMajorPi_zero, ix2, ix3]

/-- The scratch followed by the block's first 128 lanes. -/
theorem row_pay7 (r : Fin 32) (n : ℕ) (hn : n < 256) :
    row (k0_pay7 x h) r n = if n < 128 then row h r n else row (k0_pay5 x) r (n - 128) := by
  rw [row_of_lt _ _ _ hn]
  unfold k0_pay7
  split
  · rename_i hlt
    rw [beside_left _ _ _ r ⟨n, hn⟩ ⟨n, hlt⟩ rfl, row_of_lt _ _ _ hlt]
  · rename_i hge
    rw [beside_right _ _ _ r ⟨n, hn⟩ ⟨n - 128, by omega⟩ (by simp; omega), slice_apply _ _ _ _ (by simp; omega),
      row_of_lt _ _ _ (by omega)]
    congr 2
    exact Fin.ext (Nat.zero_add _)

/-- The scratch left behind: the block's last 128 lanes. -/
theorem row_pay3 (r : Fin 32) (n : ℕ) (hn : n < 128) :
    row (k0_pay3 (k0_pay5 x)) r n = row (k0_pay5 x) r (47872 + n) := by
  rw [row_of_lt _ _ _ hn, row_of_lt _ _ _ (by omega)]
  unfold k0_pay3
  rw [shapeCast_self, slice_apply _ _ _ _ (by simp; omega)]

/-- The scratch after a reset: zeros. -/
theorem row_pay4 (r : Fin 32) (n : ℕ) (hn : n < 128) :
    row (k0_pay4 (F := Ideal)) r n = (Scalar.ofBits .f32 0x00000000#32 : Ideal .f32) := by
  rw [row_of_lt _ _ _ hn]
  unfold k0_pay4
  rw [shapeCast_self]
  rfl

/-- The scratch, then the block: the sequence the filter runs over. -/
def joined (r : Fin 32) (n : ℕ) : EReal := if n < 128 then row h r n else row (k0_pay5 x) r (n - 128)

/-- The block a point leaves, at any lane: the filter of the scratch followed by the block. -/
theorem stored_apply (r : Fin 32) (n : ℕ) (hn : n < 48000) :
    stored x h (ix3 r 0 ⟨n, hn⟩) = tapSum (joined x h r) (n + 128) := by
  unfold stored
  by_cases hl : n < 128
  · have e : (ix3 r 0 ⟨n, hn⟩ : S32x1x48000.Idx) =
        (Rect.unit (s := S32x1x48000) ![0, 0, 0] S32x1x128.size inb_S32x1x48000_S32x1x128_0_0_0).emb
          (ix3 r (0 : Fin 1) (⟨n, hl⟩ : Fin 128)) := by
      funext a; apply Fin.ext
      match a with
      | ⟨0, _⟩ => show r.val = 0 + 1 * r.val; omega
      | ⟨1, _⟩ => rfl
      | ⟨2, _⟩ => show n = 0 + 1 * n; omega
    rw [e, View.canon_cons_emb]
    unfold k0_pay2
    rw [shapeCast_apply _ _ _ (ix2 r (⟨n, hl⟩ : Fin 128)) (by
      show (Shape.rowMajorPi ![32, 128] (ix2 r (⟨n, hl⟩ : Fin 128))).val =
        (Shape.rowMajorPi ![32, 1, 128] (ix3 r (0 : Fin 1) (⟨n, hl⟩ : Fin 128))).val
      simp [Shape.rowMajorPi_succ_val, Shape.rowMajorPi_zero, ix2, ix3])]
    rw [slice_apply _ _ r ⟨n, hl⟩ (by simp; omega)]
    refine (row_of_lt _ r (128 + n) (by omega)).symm.trans ?_
    rw [row_edge _ _ _ _ (by omega) (by omega), Nat.add_comm]
    apply tapSum_congr <;> rw [row_pay7 _ _ _ _ (by omega)] <;> rfl
  · rw [View.canon_cons_of_not_mem _ _ (by
      rw [Rect.mem_set_unit]
      intro hh
      have := (hh 2).2
      have e : ((ix3 r (0 : Fin 1) (⟨n, hn⟩ : Fin 48000) : S32x1x48000.Idx) 2 : Nat) = n := rfl
      rw [e] at this
      exact hl (by simpa using this)), View.canon_unit_zero (S := S32x1x48000) hz3]
    unfold k0_pay1
    rw [shapeCast_apply _ _ _ (ix2 r (⟨n, hn⟩ : Fin 48000)) (by
      show (Shape.rowMajorPi ![32, 48000] (ix2 r (⟨n, hn⟩ : Fin 48000))).val =
        (Shape.rowMajorPi ![32, 1, 48000] (ix3 r (0 : Fin 1) (⟨n, hn⟩ : Fin 48000))).val
      simp [Shape.rowMajorPi_succ_val, Shape.rowMajorPi_zero, ix2, ix3])]
    refine (row_of_lt _ r n hn).symm.trans ?_
    rw [row_pay6 _ _ _ hn (by omega)]
    apply tapSum_congr <;> unfold joined <;> rw [if_neg (by omega)] <;> congr 1 <;> omega

end Values

end Cert.KernelIdeal.Body

end
-- ==== Proof.KernelValue.lean ====
/-
  What the kernel's result holds: at row `b` and sample `n`, the nine-tap filter of the row preceded by 128 zeros.

  Point `10 g + t` filters samples `48000 t …` of rows `32 g …`; the scratch it finds holds the 128 samples before them —
  zeros at `t = 0`, otherwise the last lanes of the block of the point before, which is the same rows' block `t - 1`.
-/
module

public import proofs.«01_k».proof.Proof.Gen.KernelIdeal.Value
public import proofs.«01_k».proof.Proof.KernelBody

@[expose] public section

noncomputable section

namespace Cert.KernelIdeal.Body

open Cert.KernelIdeal Cert.KernelIdeal.Gen Cert.KernelIdeal.Value Idealize.ShloMosaic Idealize.ShloMosaic.TcCoe
open Idealize.ShloMosaic.ValueIdx Idealize.SL.Sem

variable (m : (ℓ : Loc nD τ sig) → Buf (Elt Ideal) ℓ)

/-- Row `b` of the input, preceded by 128 zeros. -/
def padded (x : Vec Ideal S64x1x480000 .f32) (b : Fin 64) (n : ℕ) : EReal :=
  if n < 128 then (Scalar.ofBits .f32 0x00000000#32 : Ideal .f32)
  else if h : n - 128 < 480000 then x (ix3 b 0 ⟨n - 128, h⟩) else 0

/-- The input window's block index at point `t`: row block `t / 10`, sample block `t % 10`. -/
theorem index_in : ∀ t : Fin cfg0.N, win0_0.index t (0 : Fin 3) = t.val / 10 ∧ win0_0.index t (1 : Fin 3) = 0
    ∧ win0_0.index t (2 : Fin 3) = t.val % 10 :=
  (by decide +kernel : ∀ t : Fin grid0.N, _)

/-- The row of the input that row `r` of point `t`'s block is. -/
def rowAt (t : Fin cfg0.N) (r : Fin 32) : Fin 64 :=
  ⟨32 * (t.val / 10) + r.val, by have := lt_of_lt_of_eq t.isLt (show cfg0.N = 20 from N_0); omega⟩

/-- The block point `t` reads, at an index. -/
theorem row_iblk (c : Dev nD) (t : Fin cfg0.N) (r : Fin 32) (n : ℕ) (hn : n < 48000) :
    row (k0_pay5 (iblk m c 0 t)) r n =
      padded (m ((c : Thread nD τ).loc main_arg0)) (rowAt t r) (48000 * (t.val % 10) + n + 128) := by
  obtain ⟨e0, e1, e2⟩ := index_in t
  have ht := lt_of_lt_of_eq t.isLt (show cfg0.N = 20 from N_0)
  rw [row_pay5 _ _ _ hn]
  unfold padded
  rw [if_neg (by omega), dif_pos (by omega)]
  unfold iblk
  rw [View.read_apply]
  show V m c main_arg0 _ = _
  unfold V
  congr 1
  funext a
  apply Fin.ext
  match a with
  | ⟨0, _⟩ =>
    show win0_0.index t (0 : Fin 3) * 32 + 1 * r.val = 32 * (t.val / 10) + r.val
    omega
  | ⟨1, _⟩ =>
    show win0_0.index t (1 : Fin 3) * 1 + 1 * 0 = 0
    omega
  | ⟨2, _⟩ =>
    show win0_0.index t (2 : Fin 3) * 48000 + 1 * n = 48000 * (t.val % 10) + n + 128 - 128
    omega

/-- Whatever the point, the scratch it leaves is the last 128 lanes of the block it read. -/
theorem scratch_after (c : Dev nD) (t : Fin cfg0.N) :
    (outsAt0 m c t.val t.isLt).2 = k0_pay3 (k0_pay5 (iblk m c 0 t)) := by
  by_cases h0 : t.val % 10 = 0
  · rw [outsAt0_A m c t h0]; dsimp only; exact sout_A (F := Ideal) ..
  · rw [outsAt0_B m c t h0]; dsimp only; exact sout_B (F := Ideal) ..

/-- The output block a point leaves is the filter of its rows preceded by their last 128 samples (or zeros). -/
theorem block_after (c : Dev nD) (t : Fin cfg0.N) (r : Fin 32) (n : ℕ) (hn : n < 48000) :
    (outsAt0 m c t.val t.isLt).1 (ix3 r 0 ⟨n, hn⟩) =
      tapSum (padded (m ((c : Thread nD τ).loc main_arg0)) (rowAt t r)) (48000 * (t.val % 10) + n + 128) := by
  have ht := lt_of_lt_of_eq t.isLt (show cfg0.N = 20 from N_0)
  -- the scratch found at the point, whichever case runs
  have key : ∃ h : Vec Ideal S32x128 .f32, (outsAt0 m c t.val t.isLt).1 = stored (iblk m c 0 t) h ∧
      ∀ k, k < 128 → row h r k =
        padded (m ((c : Thread nD τ).loc main_arg0)) (rowAt t r) (48000 * (t.val % 10) + k) := by
    by_cases h0 : t.val % 10 = 0
    · refine ⟨k0_pay4 (F := Ideal), ?_, ?_⟩
      · rw [outsAt0_A m c t h0]; dsimp only; exact out_A (F := Ideal) ..
      · intro k hk
        rw [row_pay4 _ _ hk]
        unfold padded
        rw [if_pos (by omega)]
    · refine ⟨k0_pay3 (k0_pay5 (iblk m c 0 ⟨t.val - 1, by omega⟩)), ?_, ?_⟩
      · rw [outsAt0_B m c t h0, ← scratch_after m c ⟨t.val - 1, by omega⟩]; dsimp only; exact out_B (F := Ideal) ..
      · intro k hk
        rw [row_pay3 _ _ _ hk, row_iblk m c _ r _ (by omega)]
        have er : rowAt ⟨t.val - 1, by omega⟩ r = rowAt t r := by
          apply Fin.ext
          show 32 * ((t.val - 1) / 10) + r.val = 32 * (t.val / 10) + r.val
          omega
        rw [er]
        congr 1
        show 48000 * ((t.val - 1) % 10) + (47872 + k) + 128 = _
        omega
  obtain ⟨h, e, hh⟩ := key
  rw [e, stored_apply _ _ _ _ hn]
  have hj : ∀ k, k < 48128 → joined (iblk m c 0 t) h r k =
      padded (m ((c : Thread nD τ).loc main_arg0)) (rowAt t r) (48000 * (t.val % 10) + k) := by
    intro k hk
    unfold joined
    split
    · rename_i hlt; exact hh k hlt
    · rw [row_iblk m c t r _ (by omega)]; congr 1; omega
  apply tapSum_congr <;> rw [hj _ (by omega)] <;> congr 1 <;> omega

/-- The kernel's result at row `b`, sample `n`: the nine-tap filter of the row preceded by 128 zeros. -/
theorem result_apply (c : Dev nD) (b : Fin 64) (n : Fin 480000) :
    G1 m c (ix3 b 0 n) = tapSum (padded (m ((c : Thread nD τ).loc main_arg0)) b) (n.val + 128) := by
  have hp : pt1Of (ix3 b 0 n : S64x1x480000.Idx) = 10 * (b.val / 32) + n.val / 48000 := by
    show 10 * (b.val / 32 - 0) + 10 * (0 / 1 - 0) + 1 * (n.val / 48000 - 0) = _
    omega
  have hN : (10 * (b.val / 32) + n.val / 48000) < cfg0.N := by
    rw [show cfg0.N = 20 from N_0]; omega
  unfold G1
  rw [dif_pos (by rw [hp]; exact hN), ← outsAt0_sweep]
  have hl : loc1Of (ix3 b 0 n : S64x1x480000.Idx) =
      ix3 (⟨b.val % 32, Nat.mod_lt _ (by decide)⟩ : Fin 32) 0 (⟨n.val % 48000, Nat.mod_lt _ (by decide)⟩ : Fin 48000) := by
    funext a; apply Fin.ext
    match a with
    | ⟨0, _⟩ => rfl
    | ⟨1, _⟩ => rfl
    | ⟨2, _⟩ => rfl
  rw [hl]
  have hb := block_after m c ⟨pt1Of (ix3 b 0 n : S64x1x480000.Idx), by rw [hp]; exact hN⟩
    ⟨b.val % 32, Nat.mod_lt _ (by decide)⟩ (n.val % 48000) (Nat.mod_lt _ (by decide))
  refine hb.trans ?_
  have er : rowAt ⟨pt1Of (ix3 b 0 n : S64x1x480000.Idx), by rw [hp]; exact hN⟩ ⟨b.val % 32, Nat.mod_lt _ (by decide)⟩ = b := by
    apply Fin.ext
    show 32 * (pt1Of (ix3 b 0 n : S64x1x480000.Idx) / 10) + b.val % 32 = b.val
    rw [hp]; omega
  rw [er]
  congr 1
  show 48000 * (pt1Of (ix3 b 0 n : S64x1x480000.Idx) % 10) + n.val % 48000 + 128 = _
  rw [hp]; omega

end Cert.KernelIdeal.Body

end
-- ==== Proof.ReferenceRun.lean ====
/-
  The reference's run, as a sequence of states.

  The reference's only loop is the recursion's scan over the 480000 samples. `Cert.ReferenceIdeal.Step.step` is one trip
  of it. This module shows that the program, started on any memory, ends with its result computed from the
  480000th state of ANY sequence that starts at the initial state and goes on by `step`.
-/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The loop's buffers hold the state `s` before trip `j`. -/
structure Holds (V : Valuation τ sig (Elt F)) (s : State F) (j : ℕ) : Prop where
  xs : V (Proc.devRef .tc main_v4_2) = s.main_v4_2
  ys : V (Proc.devRef .tc main_v4_3) = s.main_v4_3
  yt : V (Proc.devRef .tc main_v4_4) = s.main_v4_4
  xt : V (Proc.devRef .tc main_v4_0) = s.main_v4_0
  trip : V (Proc.devRef .tc main_v4_1) = constantI S_ 32 (BitVec.ofNat 32 j)

variable {V : Valuation τ sig (Elt F)} {s : State F} {j : ℕ}

set_option maxRecDepth 8192 in
/-- The sample a trip reads. -/
theorem sample_eq (h : Holds V s j) : res_main_while0b_v23 V = b2 j s := by
  unfold res_main_while0b_v23 b2 b1 b0
  rw [h.xt, h.trip]
  rfl

set_option maxRecDepth 8192 in
/-- The output sample a trip makes. -/
theorem output_eq (h : Holds V s j) : res_main_while0b_v45 V = b29 j s := by
  unfold res_main_while0b_v45 b29 b28 b27 b26 b25 b24 b23 b22 b21 b20 b19 b18 b17 b16 b15 b14 b13 b12 b11 b10 b9 b8 b7 b6 b5 b4 b3
  rw [sample_eq h, h.xs, h.ys]

set_option maxRecDepth 8192 in
/-- One trip of the program takes buffers that hold a state to buffers that hold its successor. -/
theorem holds_step (h : Holds V s j) : Holds (STEP V) (step j s) (j + 1) where
  xs := (STEP_main_v4_2 V).trans (by
    rw [Step.step_main_v4_2]
    unfold Value.step_main_v4_2 b34 b33 b32 b31 b30
    rw [sample_eq h, h.xs]
    rfl)
  ys := (STEP_main_v4_3 V).trans (by
    rw [Step.step_main_v4_3]
    unfold Value.step_main_v4_3 b39 b38 b37 b36 b35
    rw [output_eq h, h.ys]
    rfl)
  yt := (STEP_main_v4_4 V).trans (by
    rw [Step.step_main_v4_4]
    unfold Value.step_main_v4_4 b42 b41 b40
    rw [output_eq h, h.yt, h.trip]
    rfl)
  xt := (STEP_main_v4_0 V).trans h.xt
  trip := (STEP_main_v4_1 V).trans (by
    unfold Value.step_main_v4_1
    rw [h.trip]
    funext i
    show BitVec.ofNat 32 j + 1#32 = BitVec.ofNat 32 (j + 1)
    simp only [BitVec.ofNat_add])

variable (m : (ℓ : Loc nD τ sig) → Buf (Elt F) ℓ) (c : Dev nD)

set_option maxRecDepth 65536 in
/-- Before the first trip the buffers hold the initial state. -/
theorem holds_entry : Holds (entryContents preI m c) (init (m ((c.tc : Thread nD τ).loc main_arg0))) 0 := by
  constructor <;> (simp only [entryContents, afterL_cons, afterL_nil]; after_reads_simp) <;> rfl

/-- Before trip `k` they hold state number `k`. -/
theorem holds_trip (it : ℕ → State F) (h0 : it 0 = init (m ((c.tc : Thread nD τ).loc main_arg0)))
    (hs : ∀ n, it (n + 1) = step n (it n)) : ∀ k, Holds (STEP^[k] (entryContents preI m c)) (it k) k
  | 0 => h0 ▸ holds_entry m c
  | k + 1 => by
    rw [Function.iterate_succ_apply', hs k]
    exact holds_step (holds_trip it h0 hs k)

set_option maxRecDepth 8192 in
/-- The program ends with its result made from state number 480000 and with its argument unchanged. -/
theorem run_trips (ρ : Dev nD → PrngReg) (it : Dev nD → ℕ → State F)
    (h0 : ∀ c, it c 0 = init (m ((c.tc : Thread nD τ).loc main_arg0))) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v22) = R_main_v22 (it c 480000) (m ((c.tc : Thread nD τ).loc main_arg0))
      ∧ r.2.mem ((c.tc : Thread nD τ).loc main_arg0) = m ((c.tc : Thread nD τ).loc main_arg0) :=
  (θ_run defs _ _).mono (fun _ h c =>
    ⟨(h c).1.trans (by
      unfold out_main_v22 R_main_v22
      rw [(holds_trip m c (it c) (h0 c) (hs c) 480000).yt, iter_main_arg0 m c 480000]), (h c).2⟩) (Value.run m ρ)

end Cert.ReferenceIdeal.Trips

end
-- ==== Proof.Consts.lean ====
/-
  The float constants of the two programs and of the precondition, as the real numbers they denote.
-/
module

public import proofs.«01_k».proof.KernelIdeal
public import Idealize.ShloMosaic.PureOps.IdealRules

@[expose] public section

noncomputable section

namespace Cert.Consts

open Idealize.ShloMosaic

/-- The coefficient `q`: the f32 nearest to `(1 - α) / (1 + α)`, `α = 1 / (2 · 0.707)`. -/
def q : ℝ := 5754571 / 33554432

/-- `0.0` denotes zero, -/
theorem ofBits_zero : Ideal.ofBits .f32 0x00000000#32 = ((0 : ℝ) : EReal) := by
  simp [Ideal.ofBits, Ideal.ieee]

/-- and so does `-0.0`. -/
theorem ofBits_neg_zero : Ideal.ofBits .f32 0x80000000#32 = ((0 : ℝ) : EReal) := by
  simp [Ideal.ofBits, Ideal.ieee]

/-- `1.0` denotes one. -/
theorem ofBits_one : Ideal.ofBits .f32 0x3F800000#32 = ((1 : ℝ) : EReal) := by
  simp [Ideal.ofBits, Ideal.ieee, -EReal.coe_mul]; norm_num

/-- The first coefficient denotes `q`, -/
theorem ofBits_q : Ideal.ofBits .f32 0x3E2F9D96#32 = ((q : ℝ) : EReal) := by
  unfold q
  simp [Ideal.ofBits, Ideal.ieee, -EReal.coe_mul]; norm_num

/-- and its negation denotes `-q`. -/
theorem ofBits_neg_q : Ideal.ofBits .f32 0xBE2F9D96#32 = ((-q : ℝ) : EReal) := by
  unfold q
  simp [Ideal.ofBits, Ideal.ieee, -EReal.coe_mul]; norm_num

/-- The word of `+∞` denotes `⊤`. -/
theorem ofBits_inf : Ideal.ofBits .f32 0x7F800000#32 = ⊤ := by
  simp [Ideal.ofBits, Ideal.ieee]

/-- The constant named `q2` denotes `q²`. -/
theorem named_q2 : (Named.named (F := Ideal) Cert.KernelIdeal.κ "q2" 0x3CF0F1A8#32 : Ideal .f32) = ((q ^ 2 : ℝ) : EReal) := by
  rw [IdealRules.named_const.ideal_named_scalar _ _ _ ((33115087394041 / 1125899906842624 : ℝ) : EReal) rfl]
  unfold q; norm_num

/-- The constant named `one_sub_q2` denotes `1 - q²`. -/
theorem named_one_sub_q2 :
    (Named.named (F := Ideal) Cert.KernelIdeal.κ "one_sub_q2" 0x3F787873#32 : Ideal .f32) = ((1 - q ^ 2 : ℝ) : EReal) := by
  rw [IdealRules.named_const.ideal_named_scalar _ _ _ ((1092784819448583 / 1125899906842624 : ℝ) : EReal) rfl]
  unfold q; norm_num

end Cert.Consts

end
-- ==== Proof.Recursion.lean ====
/-
  The mathematics over the reals: the recursion `y n = q x n + x (n-2) - q y (n-2)`, and its response without the part
  beyond lag 8 as a sum of five taps.
-/
module

public import proofs.«01_k».proof.Proof.Consts

@[expose] public section

noncomputable section

namespace Cert.Recursion

open Cert.Consts

/-- The value of a sequence `d` samples before sample `n`; zero before the start. -/
def back (X : ℕ → ℝ) (n d : ℕ) : ℝ := if d ≤ n then X (n - d) else 0

theorem back_zero (X : ℕ → ℝ) (n : ℕ) : back X n 0 = X n := by simp [back]

theorem back_succ (X : ℕ → ℝ) (n d : ℕ) : back X (n + 1) (d + 1) = back X n d := by
  unfold back
  by_cases h : d ≤ n
  · rw [if_pos h, if_pos (by omega)]; congr 1; omega
  · rw [if_neg h, if_neg (by omega)]

theorem back_of_gt (X : ℕ → ℝ) (n d : ℕ) (h : n < d) : back X n d = 0 := if_neg (by omega)

/-- The all-pass recursion from rest. -/
def resp (X : ℕ → ℝ) : ℕ → ℝ
  | 0 => q * X 0
  | 1 => q * X 1
  | n + 2 => q * X (n + 2) + X n - q * resp X n

/-- The recursion, at every sample. -/
theorem resp_eq (X : ℕ → ℝ) (n : ℕ) : resp X n = q * X n + back X n 2 - q * back (resp X) n 2 := by
  match n with
  | 0 => simp [resp, back]
  | 1 => simp [resp, back]
  | n + 2 => rw [resp]; simp [back]

/-- The recursion, seen from a later sample. -/
theorem back_resp (X : ℕ → ℝ) (n d : ℕ) :
    back (resp X) n d = q * back X n d + back X n (d + 2) - q * back (resp X) n (d + 2) := by
  by_cases h : d ≤ n
  · have e : ∀ Y : ℕ → ℝ, back Y n (d + 2) = back Y (n - d) 2 := by
      intro Y
      unfold back
      by_cases h2 : d + 2 ≤ n
      · rw [if_pos h2, if_pos (by omega)]; congr 1
      · rw [if_neg h2, if_neg (by omega)]
    rw [e, e]
    have e0 : ∀ Y : ℕ → ℝ, back Y n d = Y (n - d) := fun Y => if_pos h
    rw [e0, e0, resp_eq]
  · rw [back_of_gt _ _ _ (by omega), back_of_gt _ _ _ (by omega), back_of_gt _ _ _ (by omega),
      back_of_gt _ _ _ (by omega)]
    ring

/-- The recursion's response without its part beyond lag 8. -/
def cut (X : ℕ → ℝ) (n : ℕ) : ℝ :=
  resp X n - q * (q * (q * (q * (back (resp X) n 8 - q * back X n 8))))

/-- … is the five-tap sum: `q` at lag 0 and `(1 - q²) (1, -q, q², -q³)` at lags 2, 4, 6, 8. -/
theorem cut_eq (X : ℕ → ℝ) (n : ℕ) :
    cut X n = q * X n + (1 - q ^ 2) * ((back X n 2 + -q * back X n 4) + q ^ 2 * (back X n 6 + -q * back X n 8)) := by
  have h2 := back_resp X n 2
  have h4 := back_resp X n 4
  have h6 := back_resp X n 6
  unfold cut
  rw [resp_eq, h2, h4, h6]
  ring

/-- A sample before an earlier sample. -/
theorem back_sub_two (X : ℕ → ℝ) (n d : ℕ) (h : 2 ≤ n) : back X (n - 2) d = back X n (d + 2) := by
  unfold back
  by_cases hd : d + 2 ≤ n
  · rw [if_pos hd, if_pos (by omega)]; congr 1; omega
  · rw [if_neg hd, if_neg (by omega)]

/-- It satisfies the recursion's equation short of one term, in the input at lag 10. -/
theorem cut_step (X : ℕ → ℝ) (n : ℕ) :
    cut X n = q * X n + back X n 2 - q * back (cut X) n 2 -
      (q * (q * (q * (q * back X n 10))) - q * (q * (q * (q * (q * (q * back X n 10)))))) := by
  by_cases h : 2 ≤ n
  · have e : back (cut X) n 2 = cut X (n - 2) := if_pos h
    have e0 : X (n - 2) = back X n 2 := (if_pos h).symm
    rw [e, cut_eq, cut_eq, back_sub_two _ _ _ h, back_sub_two _ _ _ h, back_sub_two _ _ _ h, back_sub_two _ _ _ h, e0]
    ring
  · rw [cut_eq, back_of_gt (cut X) _ _ (by omega), back_of_gt _ _ _ (by omega), back_of_gt _ _ 4 (by omega),
      back_of_gt _ _ 6 (by omega), back_of_gt _ _ 8 (by omega), back_of_gt _ _ 10 (by omega)]
    ring

/-- What is cut off vanishes at the first ten samples. -/
theorem cut_eq_resp (X : ℕ → ℝ) (n : ℕ) (h : n < 10) : cut X n = resp X n := by
  have e : back (resp X) n 8 - q * back X n 8 = 0 := by
    rw [back_resp, back_of_gt _ _ (8 + 2) (by omega), back_of_gt _ _ (8 + 2) (by omega)]
    ring
  unfold cut
  rw [e]
  ring

/-- On inputs of size at most `M` the response less its term at lag 0 has size at most `(1 + q) M`. -/
theorem resp_sub_le (X : ℕ → ℝ) (M : ℝ) (n : ℕ) (hM : ∀ k, k ≤ n → |X k| ≤ M) : |resp X n - q * X n| ≤ (1 + q) * M := by
  have hM0 : 0 ≤ M := (abs_nonneg _).trans (hM 0 (Nat.zero_le n))
  induction n using Nat.twoStepInduction with
  | zero => simp only [resp, sub_self, abs_zero]; unfold q; positivity
  | one => simp only [resp, sub_self, abs_zero]; unfold q; positivity
  | more n ih _ =>
    have h1 := abs_le.mp (ih fun k hk => hM k (by omega))
    have h2 := abs_le.mp (hM n (by omega))
    have e : resp X (n + 2) - q * X (n + 2) = (1 - q ^ 2) * X n - q * (resp X n - q * X n) := by rw [resp]; ring
    rw [e]
    have hq : q = 5754571 / 33554432 := rfl
    rw [hq] at h1 ⊢
    exact abs_le.mpr ⟨by linarith [h1.1, h1.2, h2.1, h2.2], by linarith [h1.1, h1.2, h2.1, h2.2]⟩

/-- What is cut off has size at most `q⁴ (1 + q) M`, less than `0.00102 M`. -/
theorem cut_near (X : ℕ → ℝ) (M : ℝ) (n : ℕ) (hM : ∀ k, k ≤ n → |X k| ≤ M) :
    |resp X n - cut X n| ≤ q ^ 4 * ((1 + q) * M) := by
  have hM0 : 0 ≤ M := (abs_nonneg _).trans (hM 0 (Nat.zero_le n))
  have hq : 0 ≤ q := by unfold q; norm_num
  have e : resp X n - cut X n = q ^ 4 * (back (resp X) n 8 - q * back X n 8) := by unfold cut; ring
  rw [e, abs_mul, abs_of_nonneg (pow_nonneg hq 4)]
  refine mul_le_mul_of_nonneg_left ?_ (pow_nonneg hq 4)
  by_cases h : 8 ≤ n
  · have e1 : ∀ Y : ℕ → ℝ, back Y n 8 = Y (n - 8) := fun Y => if_pos h
    rw [e1, e1]
    exact resp_sub_le X M (n - 8) fun k hk => hM k (by omega)
  · rw [back_of_gt _ _ _ (by omega), back_of_gt _ _ _ (by omega), mul_zero, sub_self, abs_zero]
    positivity

end Cert.Recursion

end
-- ==== Proof.Delay.lean ====
/-
  A delay along the samples, as both the reference and the difference equation write it: `d` zeros, then all but the last
  `d` samples.
-/
module

public import proofs.«01_k».proof.Proof.Recursion
public import Idealize.ShloMosaic.Lib.Pipeline.Value
public import Idealize.ShloMosaic.Lib.ValueIdx
public import Idealize.ShloMosaic.Lib.Pointwise.ShapeOpsCore

@[expose] public section

noncomputable section

namespace Cert.Delay

open Idealize.ShloMosaic hiding ix1 ix2 ix3
open Idealize.ShloMosaic.ValueIdx Cert.Consts Cert.Recursion

/-- The row `b` of `x` is the sequence of real numbers `X b`. -/
def Rows (x : FVec Ideal ⟨3, ![64, 1, 480000]⟩ .f32) (X : Fin 64 → ℕ → ℝ) : Prop :=
  ∀ (b : Fin 64) (n : Fin 480000), x (ix3 b 0 n) = ((X b n.val : ℝ) : EReal)

/-- A delayed array at row `b` and sample `n` is the row's sequence `d` samples back, zero before the start. -/
theorem delayed_apply {d e : ℕ} {x : FVec Ideal ⟨3, ![64, 1, 480000]⟩ .f32} {X : Fin 64 → ℕ → ℝ} (hx : Rows x X)
    (hde : d + e = 480000)
    (hb : (⟨0, ![]⟩ : Shape).BroadcastsInDim ⟨3, ![64, 1, d]⟩ ![])
    (hs : (⟨3, ![64, 1, 480000]⟩ : Shape).Slices ![0, 0, 0] ⟨3, ![64, 1, e]⟩)
    (hc : Shape.Concatenates [⟨3, ![64, 1, d]⟩, ⟨3, ![64, 1, e]⟩] ⟨3, ![64, 1, 480000]⟩ 2) (b : Fin 64) (n : Fin 480000) :
    concatenate ⟨3, ![64, 1, 480000]⟩ 2 [⟨⟨3, ![64, 1, d]⟩, broadcastInDim ⟨3, ![64, 1, d]⟩ ![] hb (constant ⟨0, ![]⟩ .f32 0x00000000#32)⟩,
      ⟨⟨3, ![64, 1, e]⟩, extractStridedSlice ⟨3, ![64, 1, e]⟩ ![0, 0, 0] x hs⟩] hc (ix3 b 0 n) =
      ((back (X b) n.val d : ℝ) : EReal) := by
  have hn := n.isLt
  by_cases h : n.val < d
  · rw [concatenate_pair_apply_left (t := ⟨3, ![64, 1, 480000]⟩) (s₁ := ⟨3, ![64, 1, d]⟩) (s₂ := ⟨3, ![64, 1, e]⟩) 2 _ _ _
      (ix3 b 0 n) rfl (ix3 b 0 ⟨n.val, h⟩ : (⟨3, ![64, 1, d]⟩ : Shape).Idx) (by
      intro a
      match a with
      | ⟨0, _⟩ => rfl
      | ⟨1, _⟩ => rfl
      | ⟨2, _⟩ => rfl), back_of_gt _ _ _ h]
    exact ofBits_zero
  · rw [concatenate_pair_apply_right (t := ⟨3, ![64, 1, 480000]⟩) (s₁ := ⟨3, ![64, 1, d]⟩) (s₂ := ⟨3, ![64, 1, e]⟩) 2 _ _ _
      (ix3 b 0 n) rfl rfl (ix3 b 0 ⟨n.val - d, by omega⟩ : (⟨3, ![64, 1, e]⟩ : Shape).Idx) (by
      intro a ha
      match a with
      | ⟨0, _⟩ => rfl
      | ⟨1, _⟩ => rfl
      | ⟨2, _⟩ => exact absurd rfl ha) (by show n.val - d + d = n.val; omega),
      extractStridedSlice_apply _ _ _ _ (ix3 b 0 (⟨n.val - d, by omega⟩ : Fin 480000)) (by
      intro a
      match a with
      | ⟨0, _⟩ => exact (Nat.zero_add b.val).symm
      | ⟨1, _⟩ => rfl
      | ⟨2, _⟩ => exact (Nat.zero_add (n.val - d)).symm), hx]
    unfold back
    rw [if_pos (by omega)]

end Cert.Delay

end
-- ==== Proof.ReferenceValue.lean ====
/-
  What the reference's result holds: on finite samples, at row `b` and sample `n`, the recursion's response without its
  part beyond lag 8.

  The trips' states are read by an invariant. Before trip `k` the carried pairs hold the last two samples and the last two
  outputs (zeros before the start), and rows `0 … k-1` of the output hold the recursion's response.
-/
module

public import proofs.«01_k».proof.Proof.ReferenceRun
public import proofs.«01_k».proof.Proof.Delay
public import Idealize.ShloMosaic.Lib.Pipeline.Value
public import Idealize.ShloMosaic.Lib.ValueIdx
public import Idealize.ShloMosaic.Lib.WordCmp
public import Idealize.ShloMosaic.Lib.Pointwise.ShapeOpsCore

@[expose] public section

noncomputable section

namespace Cert.ReferenceIdeal.Trips

open Idealize.ShloMosaic hiding ix1 ix2 ix3
open Idealize.ShloMosaic.TcCoe Idealize.ShloMosaic.ValueIdx Idealize.ShloMosaic.WordCmp
open Cert.ReferenceIdeal Cert.ReferenceIdeal.Gen Cert.ReferenceIdeal.Step Cert.Consts Cert.Recursion Cert.Delay

/-! ## One trip at a column -/

section Trip

variable (j : ℕ) (s : State Ideal) (b : Fin 64)

/-- Row 0 or row 1 of a pair of rows, without its unit axis. -/
theorem pairRow_apply (k : Fin 2) (a : FVec Ideal S2x64 .f32) (h : S2x64.Slices ![k.val, 0] S1x64) (h' : S1x64.ShapeCasts S64) :
    shapeCast S64 (extractStridedSlice S1x64 ![k.val, 0] a h) h' (ix1 b) = a (ix2 k b) := by
  refine (shapeCast_dropUnit_apply ![64] _ h' (ix1 b)).trans (extractStridedSlice_apply _ _ _ _ _ ?_)
  intro x
  match x with
  | ⟨0, _⟩ => rfl
  | ⟨1, _⟩ => exact (Nat.zero_add b.val).symm

/-- A row given a unit axis. -/
theorem unitRow_apply (a : FVec Ideal S64 .f32) (h : S64.BroadcastsInDim S1x64 ![1]) (z : Fin 1) :
    broadcastInDim S1x64 ![1] h a (ix2 z b) = a (ix1 b) := by
  refine broadcastInDim_apply _ _ _ _ _ ?_
  intro x
  match x with
  | ⟨0, _⟩ => rfl

/-- Row `j` lies inside the 480000 rows. -/
theorem row_slices (hj : j < 480000) : S480000x64.Slices ![j, 0] S1x64 :=
  ⟨rfl, fun a => by
    match a with
    | ⟨0, _⟩ => show j + 1 ≤ 480000; omega
    | ⟨1, _⟩ => show 0 + 64 ≤ 64; omega⟩

/-- The sample a trip reads is row `j` of the samples. -/
theorem sample_apply (hj : j < 480000) : b2 j s (ix1 b) = s.main_v4_0 (ix2 ⟨j, hj⟩ b) := by
  unfold b2
  refine (shapeCast_dropUnit_apply ![64] _ _ (ix1 b)).trans ?_
  unfold b1
  refine (congrFun (dynamicSlice_eq_extract (s := S480000x64) S1x64 _ _ _ ![j, 0] (row_slices j hj) (fun a => by
    match a with
    | ⟨0, _⟩ => exact toInt_ofNat_of_lt (by norm_num; omega)
    | ⟨1, _⟩ => rfl)) _).trans ?_
  refine extractStridedSlice_apply _ _ _ _ _ ?_
  intro x
  match x with
  | ⟨0, _⟩ => rfl
  | ⟨1, _⟩ => exact (Nat.zero_add b.val).symm

/-- The output a trip makes, in the program's own grouping. -/
theorem output_apply (hj : j < 480000) : b29 j s (ix1 b) =
    ((((Ideal.ofBits .f32 0x3E2F9D96#32 * s.main_v4_0 (ix2 ⟨j, hj⟩ b) : EReal)
      + Ideal.ofBits .f32 0x80000000#32 * s.main_v4_2 (ix2 0 b))
      + Ideal.ofBits .f32 0x3F800000#32 * s.main_v4_2 (ix2 1 b))
      - Ideal.ofBits .f32 0x80000000#32 * s.main_v4_3 (ix2 0 b))
      - Ideal.ofBits .f32 0x3E2F9D96#32 * s.main_v4_3 (ix2 1 b) := by
  rw [← sample_apply j s b hj, ← pairRow_apply b 0 s.main_v4_2 slices_S2x64_S1x64_0_0 shapeCasts_S1x64_S64,
    ← pairRow_apply b 1 s.main_v4_2 slices_S2x64_S1x64_1_0 shapeCasts_S1x64_S64,
    ← pairRow_apply b 0 s.main_v4_3 slices_S2x64_S1x64_0_0 shapeCasts_S1x64_S64,
    ← pairRow_apply b 1 s.main_v4_3 slices_S2x64_S1x64_1_0 shapeCasts_S1x64_S64]
  rfl

/-- The pair of rows a trip hands on, `[new, old row 0]`: its row 0, -/
theorem shift_zero (a : FVec Ideal S1x64 .f32) (a' : FVec Ideal S1x64 .f32) (h : Shape.Concatenates [S1x64, S1x64] S2x64 0) :
    concatenate S2x64 0 [⟨S1x64, a⟩, ⟨S1x64, a'⟩] h (ix2 0 b) = a (ix2 0 b) := by
  refine concatenate_pair_apply_left 0 a a' h (ix2 0 b) rfl (ix2 0 b) ?_
  intro x
  match x with
  | ⟨0, _⟩ => rfl
  | ⟨1, _⟩ => rfl

/-- and its row 1. -/
theorem shift_one (a : FVec Ideal S1x64 .f32) (a' : FVec Ideal S1x64 .f32) (h : Shape.Concatenates [S1x64, S1x64] S2x64 0) :
    concatenate S2x64 0 [⟨S1x64, a⟩, ⟨S1x64, a'⟩] h (ix2 1 b) = a' (ix2 0 b) := by
  refine concatenate_pair_apply_right 0 a a' h (ix2 1 b) rfl rfl (ix2 0 b) ?_ rfl
  intro x hx
  match x with
  | ⟨0, _⟩ => exact absurd rfl hx
  | ⟨1, _⟩ => rfl

theorem xs_zero : (step j s).main_v4_2 (ix2 0 b) = b2 j s (ix1 b) := by
  rw [Step.step_main_v4_2]; unfold b34
  rw [shift_zero]; unfold b32; exact unitRow_apply b _ _ _

theorem xs_one : (step j s).main_v4_2 (ix2 1 b) = s.main_v4_2 (ix2 0 b) := by
  rw [Step.step_main_v4_2]; unfold b34
  rw [shift_one]; unfold b33; rw [unitRow_apply]; exact pairRow_apply b 0 _ _ _

theorem ys_zero : (step j s).main_v4_3 (ix2 0 b) = b29 j s (ix1 b) := by
  rw [Step.step_main_v4_3]; unfold b39
  rw [shift_zero]; unfold b37; exact unitRow_apply b _ _ _

theorem ys_one : (step j s).main_v4_3 (ix2 1 b) = s.main_v4_3 (ix2 0 b) := by
  rw [Step.step_main_v4_3]; unfold b39
  rw [shift_one]; unfold b38; rw [unitRow_apply]; exact pairRow_apply b 0 _ _ _

/-- The rows of the output after a trip: the new one at `j`, the others kept. -/
theorem yt_apply (hj : j < 480000) (i : Fin 480000) :
    (step j s).main_v4_4 (ix2 i b) = if i.val = j then b29 j s (ix1 b) else s.main_v4_4 (ix2 i b) := by
  rw [Step.step_main_v4_4]; unfold b42
  refine (congrFun (dynamicUpdateSlice_eq_update (s := S480000x64) (u := S1x64) _ _ _ _ ![j, 0] (row_slices j hj) (fun a => by
    match a with
    | ⟨0, _⟩ => exact toInt_ofNat_of_lt (by norm_num; omega)
    | ⟨1, _⟩ => rfl)) _).trans ?_
  unfold updateSlice
  by_cases hi : i.val = j
  · rw [if_pos hi, dif_pos (by
      intro a
      match a with
      | ⟨0, _⟩ => show j ≤ i.val ∧ i.val < j + 1; omega
      | ⟨1, _⟩ => show 0 ≤ b.val ∧ b.val < 0 + 64; omega)]
    unfold b40
    refine Eq.trans (congrArg _ ?_) (unitRow_apply b (b29 j s) bcast_S64_S1x64_1 0)
    funext a
    apply Fin.ext
    match a with
    | ⟨0, _⟩ => show i.val - j = 0; omega
    | ⟨1, _⟩ => show b.val - 0 = b.val; omega
  · rw [if_neg hi, dif_neg (by
      intro h
      have h0 : j ≤ i.val ∧ i.val < j + 1 := h 0
      omega)]

end Trip

/-! ## All trips -/

/-- The state before trip `k`. -/
def stateAt (x : FVec Ideal S64x1x480000 .f32) : ℕ → State Ideal
  | 0 => init x
  | k + 1 => step k (stateAt x k)

variable (x : FVec Ideal S64x1x480000 .f32) (X : Fin 64 → ℕ → ℝ)

/-- What the state before trip `k` holds, column `b`. -/
structure Inv (k : ℕ) (b : Fin 64) : Prop where
  xs0 : (stateAt x k).main_v4_2 (ix2 0 b) = ((back (X b) k 1 : ℝ) : EReal)
  xs1 : (stateAt x k).main_v4_2 (ix2 1 b) = ((back (X b) k 2 : ℝ) : EReal)
  ys0 : (stateAt x k).main_v4_3 (ix2 0 b) = ((back (resp (X b)) k 1 : ℝ) : EReal)
  ys1 : (stateAt x k).main_v4_3 (ix2 1 b) = ((back (resp (X b)) k 2 : ℝ) : EReal)
  yt : ∀ i : Fin 480000, i.val < k → (stateAt x k).main_v4_4 (ix2 i b) = ((resp (X b) i.val : ℝ) : EReal)

/-- No trip changes the samples. -/
theorem xt_stateAt (k : ℕ) : (stateAt x k).main_v4_0 = A_main_v1 x := by
  induction k with
  | zero => rfl
  | succ k ih => exact ih

/-- The samples the loop reads, row by row, are the input's. -/
theorem samples_apply (i : Fin 480000) (b : Fin 64) : A_main_v1 (F := Ideal) x (ix2 i b) = x (ix3 b 0 i) := by
  unfold A_main_v1 A_main_v0
  rw [transpose_apply _ _ _ _ (ix2 b i) (fun a => by
    match a with
    | ⟨0, _⟩ => rfl
    | ⟨1, _⟩ => rfl)]
  refine shapeCast_apply _ _ _ _ ?_
  show (Shape.rowMajorPi ![64, 1, 480000] (ix3 b (0 : Fin 1) i)).val = (Shape.rowMajorPi ![64, 480000] (ix2 b i)).val
  simp [Shape.rowMajorPi_succ_val, Shape.rowMajorPi_zero, ix2, ix3]

variable {x X}

/-- The output of trip `k` is the recursion's response at sample `k`. -/
theorem output_resp (hx : Rows x X) (k : ℕ) (hk : k < 480000) (b : Fin 64) (h : Inv x X k b) :
    b29 k (stateAt x k) (ix1 b) = ((resp (X b) k : ℝ) : EReal) := by
  rw [output_apply k _ b hk, h.xs0, h.xs1, h.ys0, h.ys1, xt_stateAt, samples_apply, hx b ⟨k, hk⟩, ofBits_q, ofBits_neg_zero,
    ofBits_one, resp_eq]
  simp only [← EReal.coe_mul, ← EReal.coe_add, ← EReal.coe_sub]
  congr 1
  ring

/-- The invariant holds before every trip, and after the last. -/
theorem inv (hx : Rows x X) (k : ℕ) (hk : k ≤ 480000) (b : Fin 64) : Inv x X k b := by
  induction k with
  | zero =>
    have hz : ∀ Y : ℕ → ℝ, ∀ d, (Ideal.ofBits .f32 0x00000000#32 : EReal) = ((back Y 0 (d + 1) : ℝ) : EReal) := by
      intro Y d; rw [ofBits_zero, back_of_gt _ _ _ (by omega)]
    exact ⟨hz _ 0, hz _ 1, hz _ 0, hz _ 1, fun i hi => absurd hi (Nat.not_lt_zero _)⟩
  | succ k ih =>
    have h := ih (by omega)
    have ho := output_resp hx k (by omega) b h
    have hs : b2 k (stateAt x k) (ix1 b) = ((X b k : ℝ) : EReal) := by
      rw [sample_apply k _ b (by omega), xt_stateAt, samples_apply]; exact hx b ⟨k, by omega⟩
    refine ⟨?_, ?_, ?_, ?_, ?_⟩
    · rw [back_succ, back_zero, ← hs]; exact xs_zero k _ b
    · rw [back_succ, ← h.xs0]; exact xs_one k _ b
    · rw [back_succ, back_zero, ← ho]; exact ys_zero k _ b
    · rw [back_succ, ← h.ys0]; exact ys_one k _ b
    · intro i hi
      refine (yt_apply k _ b (by omega) i).trans ?_
      split
      · rename_i e; rw [ho, e]
      · exact h.yt i (by omega)

/-! ## The result -/

/-- The recursion's whole output, as the program lays it out. -/
theorem output_layout (s : State Ideal) (b : Fin 64) (n : Fin 480000) :
    broadcastInDim S64x1x480000 ![0, 2] bcast_S64x480000_S64x1x480000_0_2
      (transpose S64x480000 [1, 0] s.main_v4_4 transposes_S480000x64_S64x480000_1_0) (ix3 b 0 n) = s.main_v4_4 (ix2 n b) := by
  rw [broadcastInDim_apply _ _ _ _ (ix2 b n) (fun a => by
    match a with
    | ⟨0, _⟩ => rfl
    | ⟨1, _⟩ => rfl)]
  exact transpose_apply _ _ _ _ (ix2 n b) (fun a => by
    match a with
    | ⟨0, _⟩ => rfl
    | ⟨1, _⟩ => rfl)

/-- The recursion's whole output is its response, row by row. -/
theorem output_rows (hx : Rows x X) :
    Rows (broadcastInDim S64x1x480000 ![0, 2] bcast_S64x480000_S64x1x480000_0_2
      (transpose S64x480000 [1, 0] (stateAt x 480000).main_v4_4 transposes_S480000x64_S64x480000_1_0)) fun b => resp (X b) :=
  fun b n => (output_layout _ b n).trans ((inv hx 480000 le_rfl b).yt n n.isLt)

/-- The reference's result is the recursion's response without its part beyond lag 8, row by row. -/
theorem result_rows (hx : Rows x X) : Rows (R_main_v22 (stateAt x 480000) x) fun b => cut (X b) := by
  have hy := output_rows hx
  intro b n
  unfold R_main_v22
  rw [subf_apply]
  refine (congrArg₂ (fun u v : EReal => u - v) (hy b n) (delayed_apply
    (X := fun b k => q * (q * (q * (q * (resp (X b) k - q * X b k))))) ?_ rfl _ _ _ b n)).trans ?_
  · intro b n
    rw [mulf_apply, mulf_apply, mulf_apply, mulf_apply, subf_apply, mulf_apply, hy, hx]
    show Ideal.ofBits .f32 0x3E2F9D96#32 * (Ideal.ofBits .f32 0x3E2F9D96#32 * (Ideal.ofBits .f32 0x3E2F9D96#32 *
      (Ideal.ofBits .f32 0x3E2F9D96#32 * (((resp (X b) n.val : ℝ) : EReal) -
        Ideal.ofBits .f32 0x3E2F9D96#32 * ((X b n.val : ℝ) : EReal))))) = _
    rw [ofBits_q]
    simp only [← EReal.coe_mul, ← EReal.coe_sub]
  · rw [← EReal.coe_sub]
    congr 1
    unfold cut back
    by_cases h : 8 ≤ n.val
    · simp only [if_pos h]
    · simp only [if_neg h]; ring

end Cert.ReferenceIdeal.Trips

end
-- ==== Proof.BothRun.lean ====
/-
  The run of the program that returns the recursion's output beside the reference's result. Its loop is the reference's, so
  its buffers are followed through the reference's own states (`Cert.ReferenceIdeal.Step.State`).
-/
module

public import proofs.«01_k».proof.Proof.Gen.BothIdeal.Run
public import proofs.«01_k».proof.Proof.Gen.ReferenceIdeal.Step

@[expose] public section

noncomputable section

namespace Cert.BothIdeal.Trips

open Idealize.ShloMosaic Idealize.ShloMosaic.TcCoe Idealize.SL.Sem Idealize.ShloMosaic.StableHlo
open Cert.BothIdeal Cert.BothIdeal.Gen Cert.BothIdeal.Value Cert.ReferenceIdeal.Step

variable {F : FTy → Type} [FloatOps F]

/-- The loop's buffers hold the state `s` before trip `j`. -/
structure Holds (V : Valuation τ sig (Elt F)) (s : State F) (j : ℕ) : Prop where
  xs : V (Proc.devRef .tc main_v4_2) = s.main_v4_2
  ys : V (Proc.devRef .tc main_v4_3) = s.main_v4_3
  yt : V (Proc.devRef .tc main_v4_4) = s.main_v4_4
  xt : V (Proc.devRef .tc main_v4_0) = s.main_v4_0
  trip : V (Proc.devRef .tc main_v4_1) = constantI S_ 32 (BitVec.ofNat 32 j)

variable {V : Valuation τ sig (Elt F)} {s : State F} {j : ℕ}

set_option maxRecDepth 8192 in
/-- The sample a trip reads is the reference's. -/
theorem sample_eq (h : Holds V s j) : res_main_while0b_v23 V = b2 j s := by
  unfold res_main_while0b_v23 b2 b1 b0
  rw [h.xt, h.trip]
  rfl

set_option maxRecDepth 8192 in
/-- So is the output sample it makes. -/
theorem output_eq (h : Holds V s j) : res_main_while0b_v45 V = b29 j s := by
  unfold res_main_while0b_v45 b29 b28 b27 b26 b25 b24 b23 b22 b21 b20 b19 b18 b17 b16 b15 b14 b13 b12 b11 b10 b9 b8 b7 b6 b5 b4 b3
  rw [sample_eq h, h.xs, h.ys]

set_option maxRecDepth 8192 in
/-- One trip takes buffers that hold a state to buffers that hold the state the reference goes on to. -/
theorem holds_step (h : Holds V s j) : Holds (STEP V) (step j s) (j + 1) where
  xs := (STEP_main_v4_2 V).trans (by
    rw [Cert.ReferenceIdeal.Step.step_main_v4_2]
    unfold Value.step_main_v4_2 b34 b33 b32 b31 b30
    rw [sample_eq h, h.xs]
    rfl)
  ys := (STEP_main_v4_3 V).trans (by
    rw [Cert.ReferenceIdeal.Step.step_main_v4_3]
    unfold Value.step_main_v4_3 b39 b38 b37 b36 b35
    rw [output_eq h, h.ys]
    rfl)
  yt := (STEP_main_v4_4 V).trans (by
    rw [Cert.ReferenceIdeal.Step.step_main_v4_4]
    unfold Value.step_main_v4_4 b42 b41 b40
    rw [output_eq h, h.yt, h.trip]
    rfl)
  xt := (STEP_main_v4_0 V).trans h.xt
  trip := (STEP_main_v4_1 V).trans (by
    unfold Value.step_main_v4_1
    rw [h.trip]
    funext i
    show BitVec.ofNat 32 j + 1#32 = BitVec.ofNat 32 (j + 1)
    simp only [BitVec.ofNat_add])

variable (m : (ℓ : Loc nD τ sig) → Buf (Elt F) ℓ) (c : Dev nD)

set_option maxRecDepth 65536 in
/-- Before the first trip the buffers hold the reference's initial state. -/
theorem holds_entry : Holds (entryContents preI m c) (init (m ((c.tc : Thread nD τ).loc main_arg0))) 0 := by
  constructor <;> (simp only [entryContents, afterL_cons, afterL_nil]; after_reads_simp) <;> rfl

/-- Before trip `k` they hold its state number `k`. -/
theorem holds_trip (it : ℕ → State F) (h0 : it 0 = init (m ((c.tc : Thread nD τ).loc main_arg0)))
    (hs : ∀ n, it (n + 1) = step n (it n)) : ∀ k, Holds (STEP^[k] (entryContents preI m c)) (it k) k
  | 0 => h0 ▸ holds_entry m c
  | k + 1 => by
    rw [Function.iterate_succ_apply', hs k]
    exact holds_step (holds_trip it h0 hs k)

/-- The recursion's output, laid out as the program returns it. -/
def recursion (s : State F) : Vec F S64x1x480000 .f32 :=
  broadcastInDim S64x1x480000 ![0, 2] bcast_S64x480000_S64x1x480000_0_2
    (transpose S64x480000 [1, 0] s.main_v4_4 transposes_S480000x64_S64x480000_1_0)

set_option maxRecDepth 8192 in
/-- The program ends with its two results made from the reference's state number 480000 — the recursion's output, and the
    reference's result — and with its argument unchanged. -/
theorem run_trips (ρ : Dev nD → PrngReg) (it : Dev nD → ℕ → State F)
    (h0 : ∀ c, it c 0 = init (m ((c.tc : Thread nD τ).loc main_arg0))) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v6) = recursion (it c 480000)
      ∧ r.2.mem ((c.tc : Thread nD τ).loc main_v22) = R_main_v22 (it c 480000) (m ((c.tc : Thread nD τ).loc main_arg0))
      ∧ r.2.mem ((c.tc : Thread nD τ).loc main_arg0) = m ((c.tc : Thread nD τ).loc main_arg0) :=
  (θ_run defs _ _).mono (fun _ h c =>
    ⟨(h c).1.trans (by
      unfold out_main_v6 recursion
      rw [(holds_trip m c (it c) (h0 c) (hs c) 480000).yt]),
    (h c).2.1.trans (by
      unfold out_main_v22 R_main_v22
      rw [(holds_trip m c (it c) (h0 c) (hs c) 480000).yt, iter_main_arg0 m c 480000]), (h c).2.2⟩) (Value.run m ρ)

end Cert.BothIdeal.Trips

end
-- ==== Proof.Equation.lean ====
/-
  The difference equation: the response without its part beyond lag 8 satisfies the recursion's equation short of one term.
-/
module

public import proofs.«01_k».proof.Proof.Gen.Post_difference_equation
public import proofs.«01_k».proof.Proof.Delay

@[expose] public section

noncomputable section

namespace Cert.Equation

open Idealize.ShloMosaic hiding ix1 ix2 ix3 eq_ix3
open Idealize.ShloMosaic.ValueIdx Cert.Consts Cert.Recursion Cert.Delay

/-- An output that is, row by row, the response without its part beyond lag 8 satisfies the difference equation. -/
theorem holds_of_rows (x w : FVec Ideal ⟨3, ![64, 1, 480000]⟩ .f32) (X : Fin 64 → ℕ → ℝ) (hx : Rows x X)
    (hw : Rows w fun b => cut (X b)) : Cert.Post_difference_equation.fn (F := Ideal) x w = fun _ => 1#1 := by
  funext i
  obtain ⟨b, z, n, rfl⟩ : ∃ (b : Fin 64) (z : Fin 1) (n : Fin 480000), i = ix3 b z n := ⟨i 0, i 1, i 2, eq_ix3 i⟩
  obtain rfl : z = 0 := Subsingleton.elim _ _
  unfold Cert.Post_difference_equation.fn Cert.Post_difference_equation.fn_part1 Cert.Post_difference_equation.fn_part2
  unfold Cert.Post_difference_equation.S_ Cert.Post_difference_equation.S64x1x1 Cert.Post_difference_equation.S64x1x2 Cert.Post_difference_equation.S64x1x10
    Cert.Post_difference_equation.S64x1x479999 Cert.Post_difference_equation.S64x1x479998
    Cert.Post_difference_equation.S64x1x479990 Cert.Post_difference_equation.S64x1x480000
  dsimp only
  rw [cmpf_apply]
  simp only [subf_apply, addf_apply, mulf_apply]
  rw [delayed_apply hx (d := 1) (e := 479999) rfl, delayed_apply hx (d := 2) (e := 479998) rfl,
    delayed_apply hw (d := 1) (e := 479999) rfl, delayed_apply hw (d := 2) (e := 479998) rfl,
    delayed_apply hx (d := 10) (e := 479990) rfl, hx, hw]
  show Ideal.cmp .oeq ((cut (X b) n.val : ℝ) : EReal) (((((Ideal.ofBits .f32 0x3E2F9D96#32 * ((X b n.val : ℝ) : EReal)
      + Ideal.ofBits .f32 0x80000000#32 * ((back (X b) n.val 1 : ℝ) : EReal))
      + Ideal.ofBits .f32 0x3F800000#32 * ((back (X b) n.val 2 : ℝ) : EReal))
      - Ideal.ofBits .f32 0x80000000#32 * ((back (cut (X b)) n.val 1 : ℝ) : EReal))
      - Ideal.ofBits .f32 0x3E2F9D96#32 * ((back (cut (X b)) n.val 2 : ℝ) : EReal))
      - (Ideal.ofBits .f32 0x3E2F9D96#32 * (Ideal.ofBits .f32 0x3E2F9D96#32 * (Ideal.ofBits .f32 0x3E2F9D96#32 *
          (Ideal.ofBits .f32 0x3E2F9D96#32 * ((back (X b) n.val 10 : ℝ) : EReal))))
        - Ideal.ofBits .f32 0x3E2F9D96#32 * (Ideal.ofBits .f32 0x3E2F9D96#32 * (Ideal.ofBits .f32 0x3E2F9D96#32 *
          (Ideal.ofBits .f32 0x3E2F9D96#32 * (Ideal.ofBits .f32 0x3E2F9D96#32 * (Ideal.ofBits .f32 0x3E2F9D96#32 *
            ((back (X b) n.val 10 : ℝ) : EReal)))))))) = 1#1
  rw [ofBits_q, ofBits_neg_zero, ofBits_one]
  simp only [← EReal.coe_mul, ← EReal.coe_add, ← EReal.coe_sub]
  have e : cut (X b) n.val = q * X b n.val + 0 * back (X b) n.val 1 + 1 * back (X b) n.val 2 - 0 * back (cut (X b)) n.val 1
      - q * back (cut (X b)) n.val 2
      - (q * (q * (q * (q * back (X b) n.val 10))) - q * (q * (q * (q * (q * (q * back (X b) n.val 10)))))) := by
    rw [zero_mul, one_mul, zero_mul, add_zero, sub_zero]
    exact cut_step (X b) n.val
  rw [← e]
  simp [Ideal.cmp]

end Cert.Equation

end
-- ==== Proof.Near.lean ====
/-
  How near the response without its part beyond lag 8 is to the whole response: within 0.00102 of the row's peak.
-/
module

public import proofs.«01_k».proof.Proof.Gen.Post_near
public import proofs.«01_k».proof.Proof.Delay
public import Idealize.ShloMosaic.Lib.SortNet.Extract

@[expose] public section

noncomputable section

namespace Cert.Near

open Idealize.ShloMosaic hiding ix1 ix2 ix3 eq_ix3
open Idealize.ShloMosaic.ValueIdx Cert.Consts Cert.Recursion Cert.Delay

/-- The bound's factor denotes `8761733 / 2^33`, the f32 nearest to 0.00102. -/
theorem ofBits_factor : Ideal.ofBits .f32 0x3A85B185#32 = ((8761733 / 8589934592 : ℝ) : EReal) := by
  simp [Ideal.ofBits, Ideal.ieee, -EReal.coe_mul]; norm_num

/-- The row's peak is at least the size of every one of its samples. -/
theorem le_peak (a : FVec Ideal ⟨3, ![64, 1, 480000]⟩ .f32) (v : FVec Ideal ⟨0, ![]⟩ .f32)
    (h : (⟨3, ![64, 1, 480000]⟩ : Shape).ReducesTo [2] ⟨2, ![64, 1]⟩) (hu : 0 < (⟨0, ![]⟩ : Shape).numel)
    (b : Fin 64) (n : Fin 480000) :
    (a (ix3 b 0 n) : EReal) ≤ Host.reduce (FloatOps.maximumf (F := Ideal) (φ := .f32)) a v h hu (ix2 b 0) := by
  have hm := (SortNet.le_foldl_max (β := EReal)
    (fun k => (a ((⟨3, ![64, 1, 480000]⟩ : Shape).rowMajor.symm k) : EReal))
    ((List.finRange (⟨3, ![64, 1, 480000]⟩ : Shape).numel).filter fun k =>
      h.drop ((⟨3, ![64, 1, 480000]⟩ : Shape).rowMajor.symm k) = ix2 b 0) (v (Shape.Idx.first hu))).2
    ((⟨3, ![64, 1, 480000]⟩ : Shape).rowMajor (ix3 b 0 n)) (by
      rw [List.mem_filter]
      refine ⟨List.mem_finRange _, decide_eq_true ?_⟩
      rw [Equiv.symm_apply_apply]
      funext x
      apply Fin.ext
      match x with
      | ⟨0, _⟩ => exact Shape.ReducesTo.drop_apply_val_of_eq h _ 0 0
      | ⟨1, _⟩ => exact Shape.ReducesTo.drop_apply_val_of_eq h _ 1 1)
  beta_reduce at hm
  rw [Equiv.symm_apply_apply] at hm
  exact hm

/-- What is cut off has size at most the factor times any bound on the samples' size. -/
theorem bound (X : ℕ → ℝ) (n : ℕ) (P : EReal) (hP : ∀ k, k ≤ n → ((|X k| : ℝ) : EReal) ≤ P) :
    ((|resp X n - cut X n| : ℝ) : EReal) ≤ ((8761733 / 8589934592 : ℝ) : EReal) * P := by
  induction P with
  | bot => exact absurd (hP 0 (Nat.zero_le n)) (not_le.mpr (EReal.bot_lt_coe _))
  | top => rw [EReal.coe_mul_top_of_pos (by norm_num)]; exact le_top
  | coe M =>
    have hM : ∀ k, k ≤ n → |X k| ≤ M := fun k hk => EReal.coe_le_coe_iff.mp (hP k hk)
    have hM0 : 0 ≤ M := (abs_nonneg _).trans (hM 0 (Nat.zero_le n))
    rw [← EReal.coe_mul, EReal.coe_le_coe_iff]
    refine (cut_near X M n hM).trans ?_
    rw [← mul_assoc]
    refine mul_le_mul_of_nonneg_right ?_ hM0
    unfold q
    norm_num

/-- The size of a real number. -/
theorem absf_coe (r : ℝ) : max (r : EReal) (-(r : EReal)) = ((|r| : ℝ) : EReal) := by
  rw [← EReal.coe_neg, abs_eq_max_neg]
  exact ((EReal.coe_strictMono.monotone).map_max).symm

/-- Outputs that are, row by row, the response and the response without its part beyond lag 8 are near: within the bound
    everywhere, -/
theorem near_of_rows (x y w : FVec Ideal ⟨3, ![64, 1, 480000]⟩ .f32) (X : Fin 64 → ℕ → ℝ) (hx : Rows x X)
    (hy : Rows y fun b => resp (X b)) (hw : Rows w fun b => cut (X b)) :
    (Cert.Post_near.fn (F := Ideal) x y w).1 = fun _ => 1#1 := by
  funext i
  obtain ⟨b, z, n, rfl⟩ : ∃ (b : Fin 64) (z : Fin 1) (n : Fin 480000), i = ix3 b z n := ⟨i 0, i 1, i 2, eq_ix3 i⟩
  obtain rfl : z = 0 := Subsingleton.elim _ _
  unfold Cert.Post_near.fn
  dsimp only
  rw [cmpf_apply, broadcastInDim_apply _ _ _ _ (ix3 b 0 0) (fun a => by
      match a with
      | ⟨0, _⟩ => rfl
      | ⟨1, _⟩ => rfl
      | ⟨2, _⟩ => rfl), mulf_apply, broadcastInDim_apply _ _ _ (ix3 b 0 0) (ix2 b 0) (fun a => by
      match a with
      | ⟨0, _⟩ => rfl
      | ⟨1, _⟩ => rfl)]
  have hle := bound (X b) n.val _ fun k hk => by
    have hp := le_peak (Host.absf x) (constant ⟨0, ![]⟩ .f32 0xFF800000#32)
      Cert.Post_near.Facts.reducesTo_S64x1x480000_S64x1_d2 Cert.Post_near.Facts.h_S_ b ⟨k, lt_of_le_of_lt hk n.isLt⟩
    have ha : (Host.absf x (ix3 b 0 ⟨k, lt_of_le_of_lt hk n.isLt⟩) : EReal) = ((|X b k| : ℝ) : EReal) := by
      show max (x (ix3 b 0 ⟨k, lt_of_le_of_lt hk n.isLt⟩) : EReal) (-(x (ix3 b 0 ⟨k, lt_of_le_of_lt hk n.isLt⟩) : EReal)) = _
      rw [hx]
      exact absf_coe (X b k)
    rw [ha] at hp
    exact hp
  have hd : (Host.absf (subf y w) (ix3 b 0 n) : EReal) = ((|resp (X b) n.val - cut (X b) n.val| : ℝ) : EReal) := by
    show max ((y (ix3 b 0 n) : EReal) - w (ix3 b 0 n)) (-((y (ix3 b 0 n) : EReal) - w (ix3 b 0 n))) = _
    rw [hy, hw]
    show max (((resp (X b) n.val : ℝ) : EReal) - ((cut (X b) n.val : ℝ) : EReal))
      (-(((resp (X b) n.val : ℝ) : EReal) - ((cut (X b) n.val : ℝ) : EReal))) = _
    rw [← EReal.coe_sub]
    exact absf_coe _
  rw [hd]
  show Ideal.cmp .ole _ (Ideal.ofBits .f32 0x3A85B185#32 * _) = 1#1
  rw [ofBits_factor]
  unfold Ideal.cmp
  exact congrArg BitVec.ofBool (decide_eq_true hle)

/-- and exactly equal at the first ten samples. -/
theorem equal_of_rows (x y w : FVec Ideal ⟨3, ![64, 1, 480000]⟩ .f32) (X : Fin 64 → ℕ → ℝ)
    (hy : Rows y fun b => resp (X b)) (hw : Rows w fun b => cut (X b)) :
    (Cert.Post_near.fn (F := Ideal) x y w).2 = fun _ => 1#1 := by
  funext i
  obtain ⟨b, z, n, rfl⟩ : ∃ (b : Fin 64) (z : Fin 1) (n : Fin 10), i = ix3 b z n := ⟨i 0, i 1, i 2, eq_ix3 i⟩
  obtain rfl : z = 0 := Subsingleton.elim _ _
  have hs : ∀ (v : FVec Ideal ⟨3, ![64, 1, 480000]⟩ .f32) (h : (⟨3, ![64, 1, 480000]⟩ : Shape).Slices ![0, 0, 0] ⟨3, ![64, 1, 10]⟩),
      extractStridedSlice ⟨3, ![64, 1, 10]⟩ ![0, 0, 0] v h (ix3 b 0 n) = v (ix3 b 0 ⟨n.val, by omega⟩) := by
    intro v h
    refine extractStridedSlice_apply _ _ _ _ _ ?_
    intro a
    match a with
    | ⟨0, _⟩ => exact (Nat.zero_add b.val).symm
    | ⟨1, _⟩ => rfl
    | ⟨2, _⟩ => exact (Nat.zero_add n.val).symm
  unfold Cert.Post_near.fn Cert.Post_near.S64x1x480000 Cert.Post_near.S64x1x10
  dsimp only
  rw [cmpf_apply, hs, hs, hy, hw]
  show Ideal.cmp .oeq ((resp (X b) n.val : ℝ) : EReal) ((cut (X b) n.val : ℝ) : EReal) = 1#1
  rw [cut_eq_resp _ _ n.isLt]
  simp [Ideal.cmp]

end Cert.Near

end
-- ==== Proof.lean ====
/-
  The certificate's proof.

  The kernel's result at row `b`, sample `n` is the nine-tap filter of the row preceded by zeros (KernelValue.lean). The
  reference's result there is the recursion's response without its part beyond lag 8 (ReferenceValue.lean). On finite
  samples both are the same real number (Recursion.lean, `cut_eq`). What that number satisfies (Equation.lean) and how near
  it is to the whole response (Near.lean) are the two further claims.
-/
module

public import proofs.«01_k».proof.Defs
public import proofs.«01_k».proof.Proof.Gen.Kernel.Frame
public import proofs.«01_k».proof.Proof.Gen.Pre_finite
public import proofs.«01_k».proof.Proof.KernelValue
public import proofs.«01_k».proof.Proof.ReferenceValue
public import proofs.«01_k».proof.Proof.BothRun
public import proofs.«01_k».proof.Proof.Equation
public import proofs.«01_k».proof.Proof.Near
public import Idealize.ShloMosaic.Lib.Quiescent
public import Idealize.ShloMosaic.Lib.Claim

@[expose] public section

noncomputable section

namespace Cert.Proof

open Idealize.ShloMosaic hiding ix1 ix2 ix3 eq_ix3
open Idealize.SL.Sem Idealize.ShloMosaic.TcCoe Idealize.ShloMosaic.ValueIdx Cert.Consts Cert.Recursion

/-! ## The precondition -/

/-- The precondition says that every sample is a real number. -/
theorem samples_of_finite (x : FVec Ideal ⟨3, ![64, 1, 480000]⟩ .f32)
    (h : Cert.Pre_finite.fn (F := Ideal) x = fun _ => 1#1) :
    ∃ X : Fin 64 → ℕ → ℝ, Cert.Delay.Rows x X := by
  have hx : ∀ i, x i ≠ ⊤ ∧ x i ≠ ⊥ := by
    intro i
    have hi : Ideal.cmp .olt (max (x i) (-(x i) : EReal)) (Ideal.ofBits .f32 0x7F800000#32) = 1#1 := congrFun h i
    rw [ofBits_inf] at hi
    have hlt : max (x i) (-(x i) : EReal) < ⊤ := by
      by_contra hn
      simp [Ideal.cmp, hn] at hi
    obtain ⟨h1, h2⟩ := max_lt_iff.mp hlt
    exact ⟨h1.ne, fun hb => by rw [hb] at h2; simp at h2⟩
  refine ⟨fun b n => if hn : n < 480000 then (x (ix3 b 0 ⟨n, hn⟩)).toReal else 0, fun b n => ?_⟩
  show _ = ((if hn : n.val < 480000 then (x (ix3 b 0 ⟨n.val, hn⟩)).toReal else 0 : ℝ) : EReal)
  rw [dif_pos n.isLt]
  exact (EReal.coe_toReal (hx _).1 (hx _).2).symm

/-! ## The two results -/

/-- On real samples the kernel's filter is the recursion's response without its part beyond lag 8. -/
theorem tapSum_eq (x : FVec Ideal ⟨3, ![64, 1, 480000]⟩ .f32) (X : Fin 64 → ℕ → ℝ)
    (hx : Cert.Delay.Rows x X) (b : Fin 64) (n : Fin 480000) :
    Cert.KernelIdeal.Body.tapSum (Cert.KernelIdeal.Body.padded x b) (n.val + 128) = ((cut (X b) n.val : ℝ) : EReal) := by
  have hp : ∀ d, d ≤ 8 → Cert.KernelIdeal.Body.padded x b (n.val + 128 - d) = ((back (X b) n.val d : ℝ) : EReal) := by
    intro d hd
    have hn := n.isLt
    unfold Cert.KernelIdeal.Body.padded back
    by_cases h : d ≤ n.val
    · rw [if_neg (by omega), dif_pos (by omega), if_pos h, hx]
      congr 2
      show n.val + 128 - d - 128 = n.val - d
      omega
    · rw [if_pos (by omega), if_neg h]
      exact ofBits_zero
  have h0 := hp 0 (by omega)
  rw [Nat.sub_zero, back_zero] at h0
  unfold Cert.KernelIdeal.Body.tapSum
  rw [h0, hp 2 (by omega), hp 4 (by omega), hp 6 (by omega), hp 8 (by omega), named_q2, named_one_sub_q2, cut_eq]
  show Ideal.ofBits .f32 0x3E2F9D96#32 * ((X b n.val : ℝ) : EReal) + ((1 - q ^ 2 : ℝ) : EReal) *
    ((((back (X b) n.val 2 : ℝ) : EReal) + Ideal.ofBits .f32 0xBE2F9D96#32 * ((back (X b) n.val 4 : ℝ) : EReal)) +
      ((q ^ 2 : ℝ) : EReal) * (((back (X b) n.val 6 : ℝ) : EReal) +
        Ideal.ofBits .f32 0xBE2F9D96#32 * ((back (X b) n.val 8 : ℝ) : EReal))) = _
  rw [ofBits_q, ofBits_neg_q]
  simp only [← EReal.coe_mul, ← EReal.coe_add]

/-- The kernel's result is, row by row, the recursion's response without its part beyond lag 8. -/
theorem kernel_rows (m : (ℓ : Loc Cert.KernelIdeal.nD Cert.KernelIdeal.τ Cert.KernelIdeal.sig) → Buf (Elt Ideal) ℓ)
    (c : Dev Cert.KernelIdeal.nD) (X : Fin 64 → ℕ → ℝ)
    (hx : Cert.Delay.Rows (m ((c.tc : Thread Cert.KernelIdeal.nD Cert.KernelIdeal.τ).loc Cert.KernelIdeal.main_arg0)) X) :
    Cert.Delay.Rows (Cert.KernelIdeal.Value.G1 m c) fun b => cut (X b) :=
  fun b n => (Cert.KernelIdeal.Body.result_apply m c b n).trans (tapSum_eq _ X hx b n)

/-! ## The claims -/

/-- The two constants the kernel's idealization names are those the kernel holds, rounded. -/
theorem preserves : Cert.preserves_Kernel_KernelIdeal :=
  ⟨IdealRules.named_const.statement Cert.KernelIdeal.κ "q2" .f32 0x3CF0F1A8#32 _ rfl,
    IdealRules.named_const.statement Cert.KernelIdeal.κ "one_sub_q2" .f32 0x3F787873#32 _ rfl⟩

/-- The reference's run: its result, of the state after the last trip; its argument unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v22) =
          Cert.ReferenceIdeal.Step.R_main_v22 (Cert.ReferenceIdeal.Trips.stateAt (m (c.tc.loc Cert.ReferenceIdeal.main_arg0)) 480000)
            (m (c.tc.loc Cert.ReferenceIdeal.main_arg0))
        ∧ r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0) :=
  Cert.ReferenceIdeal.Trips.run_trips m g (fun c => Cert.ReferenceIdeal.Trips.stateAt (m (c.tc.loc Cert.ReferenceIdeal.main_arg0)))
    (fun _ => rfl) (fun _ _ => rfl)

/-- The reference ends with its argument unchanged and, having no semaphore, with every counter at zero. -/
theorem reference_frame : Cert.quiescent_ReferenceIdeal := fun m g _ =>
  (θ_run _ _ _).mono (fun r h => ⟨fun c => (h c).2, sem_eq_zero_of_no_sems (by decide) r.2⟩) (reference_run m g)

/-- On finite samples the kernel's result is the reference's, element by element. -/
theorem algebraic : Cert.algebraic_KernelIdeal_ReferenceIdeal_pre_finite := by
  intro m g m' g' hpre harg
  refine ⟨fun c => Cert.KernelIdeal.Value.G1 m c, Cert.KernelIdeal.Value.run m g, ?_⟩
  refine (θ_run _ _ _).mono (fun r h c => ⟨?_, (h c).2⟩) (reference_run m' g')
  rw [(h c).1, harg c]
  obtain ⟨X, hx⟩ := samples_of_finite _ (hpre c)
  funext i
  obtain ⟨b, z, n, rfl⟩ : ∃ (b : Fin 64) (z : Fin 1) (n : Fin 480000), i = ix3 b z n := ⟨i 0, i 1, i 2, eq_ix3 i⟩
  obtain rfl : z = 0 := Subsingleton.elim _ _
  exact (Cert.ReferenceIdeal.Trips.result_rows hx b n).trans (kernel_rows m c X hx b n).symm

/-- On finite samples the kernel's result satisfies the recursion's own equation short of one term. -/
theorem difference_equation : Cert.holds_KernelIdeal_difference_equation_pre_finite := by
  intro m g hpre
  refine (θ_run _ _ _).mono (fun r h c => ⟨(h c).2, ?_⟩) (Cert.KernelIdeal.Value.run m g)
  obtain ⟨X, hx⟩ := samples_of_finite _ (hpre c)
  rw [(h c).1]
  exact Cert.Equation.holds_of_rows _ _ X hx (kernel_rows m c X hx)

/-- The run of the program that returns the recursion's output beside the reference's result. -/
theorem both_run (m : (ℓ : Loc Cert.BothIdeal.nD Cert.BothIdeal.τ Cert.BothIdeal.sig) → Buf (Elt Ideal) ℓ)
    (g : Dev Cert.BothIdeal.nD → PrngReg) :
    θ_run (Cert.BothIdeal.defs (F := Ideal)) (onTc (τ := Cert.BothIdeal.τ) (Cert.BothIdeal.main (F := Ideal)))
      ⟨m, fun _ => 0, g⟩ fun r => ∀ c : Dev Cert.BothIdeal.nD,
        r.2.mem ((c.tc : Thread Cert.BothIdeal.nD Cert.BothIdeal.τ).loc Cert.BothIdeal.main_v6) =
          Cert.BothIdeal.Trips.recursion (Cert.ReferenceIdeal.Trips.stateAt (m (c.tc.loc Cert.BothIdeal.main_arg0)) 480000)
        ∧ r.2.mem ((c.tc : Thread Cert.BothIdeal.nD Cert.BothIdeal.τ).loc Cert.BothIdeal.main_v22) =
          Cert.ReferenceIdeal.Step.R_main_v22 (Cert.ReferenceIdeal.Trips.stateAt (m (c.tc.loc Cert.BothIdeal.main_arg0)) 480000)
            (m (c.tc.loc Cert.BothIdeal.main_arg0))
        ∧ r.2.mem ((c.tc : Thread Cert.BothIdeal.nD Cert.BothIdeal.τ).loc Cert.BothIdeal.main_arg0) =
          m ((c.tc : Thread Cert.BothIdeal.nD Cert.BothIdeal.τ).loc Cert.BothIdeal.main_arg0) :=
  Cert.BothIdeal.Trips.run_trips m g (fun c => Cert.ReferenceIdeal.Trips.stateAt (m (c.tc.loc Cert.BothIdeal.main_arg0)))
    (fun _ => rfl) (fun _ _ => rfl)

/-- It ends with its argument unchanged and every counter at zero. -/
theorem both_frame : Cert.quiescent_BothIdeal := fun m g _ =>
  (θ_run _ _ _).mono (fun r h => ⟨fun c => (h c).2.2, sem_eq_zero_of_no_sems (by decide) r.2⟩) (both_run m g)

/-- On finite samples its two results are within 0.00102 of the row's peak of each other, and their first ten samples are
    equal. -/
theorem near : Cert.holds_BothIdeal_near := by
  intro m g hpre
  refine (θ_run _ _ _).mono (fun r h c => ⟨(h c).2.2, ?_⟩) (both_run m g)
  obtain ⟨X, hx⟩ := samples_of_finite _ (hpre c)
  have hy := Cert.ReferenceIdeal.Trips.output_rows hx
  have hw := Cert.ReferenceIdeal.Trips.result_rows hx
  rw [(h c).1, (h c).2.1]
  exact ⟨Cert.Near.near_of_rows _ _ _ X hx hy hw, Cert.Near.equal_of_rows _ _ _ X hy hw⟩

/-- Everything the certificate claims. -/
theorem claim : Cert.Claim :=
  ⟨Cert.Kernel.Gen.facts, Cert.KernelIdeal.Gen.facts, Cert.ReferenceIdeal.Gen.facts, Cert.BothIdeal.Gen.facts, Cert.Pre_finite.Gen.facts,
    Cert.Post_difference_equation.Gen.facts, Cert.Post_near.Gen.facts,
    fun m g _ => Cert.Kernel.Gen.frame m g, fun m g _ => Cert.KernelIdeal.Gen.frame m g,
    fun m g _ => Cert.KernelIdeal.Gen.frame m g, reference_frame, fun m g _ => reference_frame m g trivial,
    both_frame, preserves, algebraic, difference_equation, near⟩

end Cert.Proof

end
